-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S4x4096x8x96 : Shape := ⟨4, ![4, 4096, 8, 96]⟩
abbrev S4x4096x8x64 : Shape := ⟨4, ![4, 4096, 8, 64]⟩
abbrev S4x256x8x96 : Shape := ⟨4, ![4, 256, 8, 96]⟩
abbrev S4x256x8x64 : Shape := ⟨4, ![4, 256, 8, 64]⟩
abbrev S_ : Shape := ⟨0, ![]⟩

class Facts : Prop where
  bcast_S_S4x4096x8x96 : S_.BroadcastsInDim S4x4096x8x96 (![] : Fin 0 → Fin S4x4096x8x96.rank)
  reducesTo_S4x4096x8x96_S_d0_1_2_3 : S4x4096x8x96.ReducesTo [0, 1, 2, 3] S_
  h_S_ : 0 < S_.numel
  bcast_S_S4x256x8x96 : S_.BroadcastsInDim S4x256x8x96 (![] : Fin 0 → Fin S4x256x8x96.rank)
  reducesTo_S4x256x8x96_S_d0_1_2_3 : S4x256x8x96.ReducesTo [0, 1, 2, 3] S_

variable [Facts]

def fn {F : FTy → Type} [FloatOps F] (main_arg0 : FVec F S4x4096x8x96 .f32) (main_arg1 : FVec F S4x4096x8x96 .f32) (main_arg2 : FVec F S4x4096x8x64 .f32) (main_arg3 : FVec F S4x256x8x96 .f32) (main_arg4 : FVec F S4x256x8x64 .f32) : IVec S_ 1 :=
  let main_v0 : FVec F S4x4096x8x96 .f32 := Host.absf main_arg0
  let main_cst : FVec F S_ .f32 := constant S_ .f32 0x7F800000#32
  let main_v1 : FVec F S4x4096x8x96 .f32 := broadcastInDim S4x4096x8x96 ![] bcast_S_S4x4096x8x96 main_cst
  let main_v2 : IVec S4x4096x8x96 1 := cmpf .olt main_v0 main_v1
  let main_c : IVec S_ 1 := constantI S_ 1 1#1
  let main_v3 : IVec S_ 1 := (fun x v => Host.reduce IntOp.andi x v reducesTo_S4x4096x8x96_S_d0_1_2_3 h_S_) main_v2 main_c
  let main_v4 : FVec F S4x4096x8x96 .f32 := Host.absf main_arg1
  let main_cst_0 : FVec F S_ .f32 := constant S_ .f32 0x7F800000#32
  let main_v5 : FVec F S4x4096x8x96 .f32 := broadcastInDim S4x4096x8x96 ![] bcast_S_S4x4096x8x96 main_cst_0
  let main_v6 : IVec S4x4096x8x96 1 := cmpf .olt main_v4 main_v5
  let main_c_1 : IVec S_ 1 := constantI S_ 1 1#1
  let main_v7 : IVec S_ 1 := (fun x v => Host.reduce IntOp.andi x v reducesTo_S4x4096x8x96_S_d0_1_2_3 h_S_) main_v6 main_c_1
  let main_v8 : IVec S_ 1 := andi main_v3 main_v7
  let main_v9 : FVec F S4x256x8x96 .f32 := Host.absf main_arg3
  let main_cst_2 : FVec F S_ .f32 := constant S_ .f32 0x7F800000#32
  let main_v10 : FVec F S4x256x8x96 .f32 := broadcastInDim S4x256x8x96 ![] bcast_S_S4x256x8x96 main_cst_2
  let main_v11 : IVec S4x256x8x96 1 := cmpf .olt main_v9 main_v10
  let main_c_3 : IVec S_ 1 := constantI S_ 1 1#1
  let main_v12 : IVec S_ 1 := (fun x v => Host.reduce IntOp.andi x v reducesTo_S4x256x8x96_S_d0_1_2_3 h_S_) main_v11 main_c_3
  let main_v13 : IVec S_ 1 := andi main_v8 main_v12
  main_v13
-- ==== Kernel.lean ====
abbrev S4x4096x8x96 : Shape := ⟨4, ![4, 4096, 8, 96]⟩
abbrev S4x4096x8x64 : Shape := ⟨4, ![4, 4096, 8, 64]⟩
abbrev S4x256x8x96 : Shape := ⟨4, ![4, 256, 8, 96]⟩
abbrev S4x256x8x64 : Shape := ⟨4, ![4, 256, 8, 64]⟩
abbrev S_ : Shape := ⟨0, ![]⟩
abbrev S4x4096x8x32 : Shape := ⟨4, ![4, 4096, 8, 32]⟩
abbrev S4x4096x8x128 : Shape := ⟨4, ![4, 4096, 8, 128]⟩
abbrev S4x4096x1024 : Shape := ⟨3, ![4, 4096, 1024]⟩
abbrev S4x1024x4096 : Shape := ⟨3, ![4, 1024, 4096]⟩
abbrev S4x4096x512 : Shape := ⟨3, ![4, 4096, 512]⟩
abbrev S4x512x4096 : Shape := ⟨3, ![4, 512, 4096]⟩
abbrev S4x256x8x32 : Shape := ⟨4, ![4, 256, 8, 32]⟩
abbrev S4x256x8x128 : Shape := ⟨4, ![4, 256, 8, 128]⟩
abbrev S4x256x1024 : Shape := ⟨3, ![4, 256, 1024]⟩
abbrev S4x256x512 : Shape := ⟨3, ![4, 256, 512]⟩
abbrev S4x512x256 : Shape := ⟨3, ![4, 512, 256]⟩
abbrev S1x256x1024 : Shape := ⟨3, ![1, 256, 1024]⟩
abbrev S1x4096x256 : Shape := ⟨3, ![1, 4096, 256]⟩
abbrev S1x128x4096 : Shape := ⟨3, ![1, 128, 4096]⟩
abbrev S1x256x256 : Shape := ⟨3, ![1, 256, 256]⟩
abbrev S1x128x256 : Shape := ⟨3, ![1, 128, 256]⟩
abbrev S1x128x1024 : Shape := ⟨3, ![1, 128, 1024]⟩
abbrev S1x256x128 : Shape := ⟨3, ![1, 256, 128]⟩
abbrev S256x128 : Shape := ⟨2, ![256, 128]⟩
abbrev S128x256 : Shape := ⟨2, ![128, 256]⟩
abbrev S256x256 : Shape := ⟨2, ![256, 256]⟩
abbrev S64x256 : Shape := ⟨2, ![64, 256]⟩
abbrev S256 : Shape := ⟨1, ![256]⟩
abbrev S1x256 : Shape := ⟨2, ![1, 256]⟩
abbrev S16x256 : Shape := ⟨2, ![16, 256]⟩
abbrev S1x64x256 : Shape := ⟨3, ![1, 64, 256]⟩
abbrev S80x256 : Shape := ⟨2, ![80, 256]⟩
abbrev S1x512x128 : Shape := ⟨3, ![1, 512, 128]⟩
abbrev S512x128 : Shape := ⟨2, ![512, 128]⟩
abbrev S512x256 : Shape := ⟨2, ![512, 256]⟩

abbrev nBuf : Space → Nat
  | .hbm => 35
  | .vmem => 12
  | .smem => 0
  | _ => 0

abbrev bufTy : (tb : Table) → Fin (tcTables nBuf tb) → BufTy
  | .hbm, ⟨0, _⟩ => ⟨S4x4096x8x96, .f32⟩
  | .hbm, ⟨1, _⟩ => ⟨S4x4096x8x96, .f32⟩
  | .hbm, ⟨2, _⟩ => ⟨S4x4096x8x64, .f32⟩
  | .hbm, ⟨3, _⟩ => ⟨S4x256x8x96, .f32⟩
  | .hbm, ⟨4, _⟩ => ⟨S4x256x8x64, .f32⟩
  | .hbm, ⟨5, _⟩ => ⟨S_, .f32⟩
  | .hbm, ⟨6, _⟩ => ⟨S4x4096x8x32, .f32⟩
  | .hbm, ⟨7, _⟩ => ⟨S4x4096x8x128, .f32⟩
  | .hbm, ⟨8, _⟩ => ⟨S4x4096x1024, .f32⟩
  | .hbm, ⟨9, _⟩ => ⟨S_, .f32⟩
  | .hbm, ⟨10, _⟩ => ⟨S4x4096x1024, .f32⟩
  | .hbm, ⟨11, _⟩ => ⟨S4x4096x1024, .f32⟩
  | .hbm, ⟨12, _⟩ => ⟨S_, .f32⟩
  | .hbm, ⟨13, _⟩ => ⟨S_, .f32⟩
  | .hbm, ⟨14, _⟩ => ⟨S4x4096x1024, .f32⟩
  | .hbm, ⟨15, _⟩ => ⟨S4x4096x1024, .f32⟩
  | .hbm, ⟨16, _⟩ => ⟨S4x4096x1024, .bf16⟩
  | .hbm, ⟨17, _⟩ => ⟨S4x1024x4096, .bf16⟩
  | .hbm, ⟨18, _⟩ => ⟨S_, .f32⟩
  | .hbm, ⟨19, _⟩ => ⟨S4x4096x8x32, .f32⟩
  | .hbm, ⟨20, _⟩ => ⟨S4x4096x8x128, .f32⟩
  | .hbm, ⟨21, _⟩ => ⟨S4x4096x1024, .f32⟩
  | .hbm, ⟨22, _⟩ => ⟨S4x4096x1024, .bf16⟩
  | .hbm, ⟨23, _⟩ => ⟨S4x4096x512, .f32⟩
  | .hbm, ⟨24, _⟩ => ⟨S4x4096x512, .bf16⟩
  | .hbm, ⟨25, _⟩ => ⟨S4x512x4096, .bf16⟩
  | .hbm, ⟨26, _⟩ => ⟨S_, .f32⟩
  | .hbm, ⟨27, _⟩ => ⟨S4x256x8x32, .f32⟩
  | .hbm, ⟨28, _⟩ => ⟨S4x256x8x128, .f32⟩
  | .hbm, ⟨29, _⟩ => ⟨S4x256x1024, .f32⟩
  | .hbm, ⟨30, _⟩ => ⟨S4x256x1024, .bf16⟩
  | .hbm, ⟨31, _⟩ => ⟨S4x256x512, .f32⟩
  | .hbm, ⟨32, _⟩ => ⟨S4x256x512, .bf16⟩
  | .hbm, ⟨33, _⟩ => ⟨S4x512x256, .bf16⟩
  | .hbm, ⟨34, _⟩ => ⟨S4x512x4096, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x256x256, .bf16⟩
  | .local _ .vmem, ⟨7, _⟩ => ⟨S1x256x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x1024, .bf16⟩
  | .local _ .vmem, ⟨11, _⟩ => ⟨S1x128x1024, .bf16⟩
  | _, _ => ⟨S4x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x4096x8x96 : Shape := ⟨4, ![4, 4096, 8, 96]⟩
abbrev S4x4096x8x64 : Shape := ⟨4, ![4, 4096, 8, 64]⟩
abbrev S4x256x8x96 : Shape := ⟨4, ![4, 256, 8, 96]⟩
abbrev S4x256x8x64 : Shape := ⟨4, ![4, 256, 8, 64]⟩
abbrev S4x4352x8x96 : Shape := ⟨4, ![4, 4352, 8, 96]⟩
abbrev S4x4352x8x64 : Shape := ⟨4, ![4, 4352, 8, 64]⟩
abbrev S4x8x4096x4352 : Shape := ⟨4, ![4, 8, 4096, 4352]⟩
abbrev S_ : Shape := ⟨0, ![]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩
abbrev S4x4096x512 : Shape := ⟨3, ![4, 4096, 512]⟩
abbrev S4x512x4096 : Shape := ⟨3, ![4, 512, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x8x96, .f32⟩
  | .hbm, ⟨1, _⟩ => ⟨S4x4096x8x96, .f32⟩
  | .hbm, ⟨2, _⟩ => ⟨S4x4096x8x64, .f32⟩
  | .hbm, ⟨3, _⟩ => ⟨S4x256x8x96, .f32⟩
  | .hbm, ⟨4, _⟩ => ⟨S4x256x8x64, .f32⟩
  | .hbm, ⟨5, _⟩ => ⟨S4x4352x8x96, .f32⟩
  | .hbm, ⟨6, _⟩ => ⟨S4x4352x8x64, .f32⟩
  | .hbm, ⟨7, _⟩ => ⟨S4x8x4096x4352, .f32⟩
  | .hbm, ⟨8, _⟩ => ⟨S_, .f32⟩
  | .hbm, ⟨9, _⟩ => ⟨S4x8x4096x4352, .f32⟩
  | .hbm, ⟨10, _⟩ => ⟨S4x8x4096x4352, .f32⟩
  | .hbm, ⟨11, _⟩ => ⟨S_, .f32⟩
  | .hbm, ⟨12, _⟩ => ⟨S4x8x4096, .f32⟩
  | .hbm, ⟨13, _⟩ => ⟨S_, .f32⟩
  | .hbm, ⟨14, _⟩ => ⟨S4x8x4096, .f32⟩
  | .hbm, ⟨15, _⟩ => ⟨S4x8x4096, .f32⟩
  | .hbm, ⟨16, _⟩ => ⟨S4x8x4096x1, .f32⟩
  | .hbm, ⟨17, _⟩ => ⟨S4x8x4096x4352, .f32⟩
  | .hbm, ⟨18, _⟩ => ⟨S4x8x4096x4352, .f32⟩
  | .hbm, ⟨19, _⟩ => ⟨S4x8x4096x4352, .f32⟩
  | .hbm, ⟨20, _⟩ => ⟨S_, .f32⟩
  | .hbm, ⟨21, _⟩ => ⟨S4x8x4096, .f32⟩
  | .hbm, ⟨22, _⟩ => ⟨S4x8x4096x1, .f32⟩
  | .hbm, ⟨23, _⟩ => ⟨S4x8x4096x4352, .f32⟩
  | .hbm, ⟨24, _⟩ => ⟨S4x8x4096x4352, .f32⟩
  | .hbm, ⟨25, _⟩ => ⟨S4x8x64x4096, .f32⟩
  | .hbm, ⟨26, _⟩ => ⟨S4x4096x8x64, .f32⟩
  | .hbm, ⟨27, _⟩ => ⟨S4x4096x512, .f32⟩
  | .hbm, ⟨28, _⟩ => ⟨S4x512x4096, .f32⟩
  | .hbm, ⟨29, _⟩ => ⟨S4x512x4096, .bf16⟩
  | _, _ => ⟨S4x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel2.lean ====
abbrev S4x4096x1024 : Shape := ⟨3, ![4, 4096, 1024]⟩
abbrev S8x6144 : Shape := ⟨2, ![8, 6144]⟩
abbrev S1x1024x5632 : Shape := ⟨3, ![1, 1024, 5632]⟩
abbrev S1x2816x1024 : Shape := ⟨3, ![1, 2816, 1024]⟩
abbrev S1x1024 : Shape := ⟨2, ![1, 1024]⟩
abbrev S8x6x1024 : Shape := ⟨3, ![8, 6, 1024]⟩
abbrev S1024x5632 : Shape := ⟨2, ![1024, 5632]⟩
abbrev S2816x1024 : Shape := ⟨2, ![2816, 1024]⟩
abbrev S1024 : Shape := ⟨1, ![1024]⟩
abbrev S1x1024x1024 : Shape := ⟨3, ![1, 1024, 1024]⟩
abbrev S1x6x1024 : Shape := ⟨3, ![1, 6, 1024]⟩
abbrev S1x1x1024 : Shape := ⟨3, ![1, 1, 1024]⟩
abbrev S1x256x1024 : Shape := ⟨3, ![1, 256, 1024]⟩
abbrev S256x1024 : Shape := ⟨2, ![256, 1024]⟩
abbrev S1024x2816 : Shape := ⟨2, ![1024, 2816]⟩
abbrev S256x2816 : Shape := ⟨2, ![256, 2816]⟩
abbrev S256 : Shape := ⟨1, ![256]⟩
abbrev S256x1 : Shape := ⟨2, ![256, 1]⟩

abbrev nBuf : Space → Nat
  | .hbm => 16
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S8x6144, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S8x6x1024, .f32⟩
  | .hbm, ⟨7, _⟩ => ⟨S1024x5632, .f32⟩
  | .hbm, ⟨8, _⟩ => ⟨S1024x5632, .bf16⟩
  | .hbm, ⟨9, _⟩ => ⟨S2816x1024, .f32⟩
  | .hbm, ⟨10, _⟩ => ⟨S2816x1024, .bf16⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S4x4096x1024 : Shape := ⟨3, ![4, 4096, 1024]⟩
abbrev S8x6144 : Shape := ⟨2, ![8, 6144]⟩
abbrev S1x1024x5632 : Shape := ⟨3, ![1, 1024, 5632]⟩
abbrev S1x2816x1024 : Shape := ⟨3, ![1, 2816, 1024]⟩
abbrev S1x1024 : Shape := ⟨2, ![1, 1024]⟩
abbrev S4x6144 : Shape := ⟨2, ![4, 6144]⟩
abbrev S4x1x6144 : Shape := ⟨3, ![4, 1, 6144]⟩
abbrev S4x1x1024 : Shape := ⟨3, ![4, 1, 1024]⟩
abbrev S_ : Shape := ⟨0, ![]⟩
abbrev S1024x5632 : Shape := ⟨2, ![1024, 5632]⟩
abbrev S2816x1024 : Shape := ⟨2, ![2816, 1024]⟩
abbrev S4x4096x5632 : Shape := ⟨3, ![4, 4096, 5632]⟩
abbrev S4x4096x2816 : Shape := ⟨3, ![4, 4096, 2816]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8x6144, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S4x6144, .f32⟩
  | .hbm, ⟨7, _⟩ => ⟨S4x1x6144, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S_, .f32⟩
  | .hbm, ⟨15, _⟩ => ⟨S4x4096x1024, .f32⟩
  | .hbm, ⟨16, _⟩ => ⟨S4x4096x1024, .f32⟩
  | .hbm, ⟨17, _⟩ => ⟨S_, .f32⟩
  | .hbm, ⟨18, _⟩ => ⟨S4x1x1024, .f32⟩
  | .hbm, ⟨19, _⟩ => ⟨S4x1x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S1024x5632, .f32⟩
  | .hbm, ⟨25, _⟩ => ⟨S2816x1024, .f32⟩
  | .hbm, ⟨26, _⟩ => ⟨S4x4096x5632, .f32⟩
  | .hbm, ⟨27, _⟩ => ⟨S4x4096x2816, .f32⟩
  | .hbm, ⟨28, _⟩ => ⟨S4x4096x2816, .f32⟩
  | .hbm, ⟨29, _⟩ => ⟨S4x4096x2816, .f32⟩
  | .hbm, ⟨30, _⟩ => ⟨S4x4096x2816, .f32⟩
  | .hbm, ⟨31, _⟩ => ⟨S_, .f32⟩
  | .hbm, ⟨32, _⟩ => ⟨S4x4096x2816, .f32⟩
  | .hbm, ⟨33, _⟩ => ⟨S4x4096x2816, .f32⟩
  | .hbm, ⟨34, _⟩ => ⟨S_, .f32⟩
  | .hbm, ⟨35, _⟩ => ⟨S4x4096x2816, .f32⟩
  | .hbm, ⟨36, _⟩ => ⟨S4x4096x2816, .f32⟩
  | .hbm, ⟨37, _⟩ => ⟨S4x4096x2816, .f32⟩
  | .hbm, ⟨38, _⟩ => ⟨S4x4096x2816, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S1024, .f32⟩
  | .hbm, ⟨44, _⟩ => ⟨S1024, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S4x4096x1, .f32⟩
  | .hbm, ⟨64, _⟩ => ⟨S4x4096x1024, .f32⟩
  | .hbm, ⟨65, _⟩ => ⟨S4x4096x1024, .f32⟩
  | .hbm, ⟨66, _⟩ => ⟨S1x1x1024, .f32⟩
  | .hbm, ⟨67, _⟩ => ⟨S4x4096x1024, .f32⟩
  | .hbm, ⟨68, _⟩ => ⟨S4x4096x1024, .f32⟩
  | .hbm, ⟨69, _⟩ => ⟨S1x1x1024, .f32⟩
  | .hbm, ⟨70, _⟩ => ⟨S4x4096x1024, .f32⟩
  | .hbm, ⟨71, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== Kernel3.lean ====
abbrev S4x4096x1024 : Shape := ⟨3, ![4, 4096, 1024]⟩
abbrev S8x6144 : Shape := ⟨2, ![8, 6144]⟩
abbrev S4x512x4096 : Shape := ⟨3, ![4, 512, 4096]⟩
abbrev S1x1024x1024 : Shape := ⟨3, ![1, 1024, 1024]⟩
abbrev S1x512x1024 : Shape := ⟨3, ![1, 512, 1024]⟩
abbrev S1x1024 : Shape := ⟨2, ![1, 1024]⟩
abbrev S8x6x1024 : Shape := ⟨3, ![8, 6, 1024]⟩
abbrev S1024x1024 : Shape := ⟨2, ![1024, 1024]⟩
abbrev S512x1024 : Shape := ⟨2, ![512, 1024]⟩
abbrev S1024 : Shape := ⟨1, ![1024]⟩
abbrev S1x6x1024 : Shape := ⟨3, ![1, 6, 1024]⟩
abbrev S1x1x1024 : Shape := ⟨3, ![1, 1, 1024]⟩
abbrev S1x256x1024 : Shape := ⟨3, ![1, 256, 1024]⟩
abbrev S256x1024 : Shape := ⟨2, ![256, 1024]⟩
abbrev S1x512x256 : Shape := ⟨3, ![1, 512, 256]⟩
abbrev S512x256 : Shape := ⟨2, ![512, 256]⟩
abbrev S256 : Shape := ⟨1, ![256]⟩
abbrev S256x1 : Shape := ⟨2, ![256, 1]⟩

abbrev nBuf : Space → Nat
  | .hbm => 24
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S8x6144, .f32⟩
  | .hbm, ⟨2, _⟩ => ⟨S4x4096x1024, .bf16⟩
  | .hbm, ⟨3, _⟩ => ⟨S4x4096x1024, .bf16⟩
  | .hbm, ⟨4, _⟩ => ⟨S4x512x4096, .bf16⟩
  | .hbm, ⟨5, _⟩ => ⟨S4x4096x1024, .bf16⟩
  | .hbm, ⟨6, _⟩ => ⟨S4x4096x1024, .bf16⟩
  | .hbm, ⟨7, _⟩ => ⟨S1x1024x1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1x1024, .f32⟩
  | .hbm, ⟨12, _⟩ => ⟨S8x6x1024, .f32⟩
  | .hbm, ⟨13, _⟩ => ⟨S1024x1024, .f32⟩
  | .hbm, ⟨14, _⟩ => ⟨S1024x1024, .bf16⟩
  | .hbm, ⟨15, _⟩ => ⟨S512x1024, .f32⟩
  | .hbm, ⟨16, _⟩ => ⟨S512x1024, .bf16⟩
  | .hbm, ⟨17, _⟩ => ⟨S1024x1024, .f32⟩
  | .hbm, ⟨18, _⟩ => ⟨S1024x1024, .bf16⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1024x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1x1024x1024, .f32⟩
  | .local _ .vmem, ⟨20, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S4x4096x1024 : Shape := ⟨3, ![4, 4096, 1024]⟩
abbrev S8x6144 : Shape := ⟨2, ![8, 6144]⟩
abbrev S4x512x4096 : Shape := ⟨3, ![4, 512, 4096]⟩
abbrev S1x1024x1024 : Shape := ⟨3, ![1, 1024, 1024]⟩
abbrev S1x512x1024 : Shape := ⟨3, ![1, 512, 1024]⟩
abbrev S1x1024 : Shape := ⟨2, ![1, 1024]⟩
abbrev S4x6144 : Shape := ⟨2, ![4, 6144]⟩
abbrev S4x1x6144 : Shape := ⟨3, ![4, 1, 6144]⟩
abbrev S4x1x1024 : Shape := ⟨3, ![4, 1, 1024]⟩
abbrev S1024x1024 : Shape := ⟨2, ![1024, 1024]⟩
abbrev S4x4096x512 : Shape := ⟨3, ![4, 4096, 512]⟩
abbrev S512x1024 : Shape := ⟨2, ![512, 1024]⟩
abbrev S_ : Shape := ⟨0, ![]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8x6144, .f32⟩
  | .hbm, ⟨2, _⟩ => ⟨S4x4096x1024, .bf16⟩
  | .hbm, ⟨3, _⟩ => ⟨S4x4096x1024, .bf16⟩
  | .hbm, ⟨4, _⟩ => ⟨S4x512x4096, .bf16⟩
  | .hbm, ⟨5, _⟩ => ⟨S4x4096x1024, .bf16⟩
  | .hbm, ⟨6, _⟩ => ⟨S4x4096x1024, .bf16⟩
  | .hbm, ⟨7, _⟩ => ⟨S1x1024x1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1x1024, .f32⟩
  | .hbm, ⟨12, _⟩ => ⟨S4x4096x1024, .f32⟩
  | .hbm, ⟨13, _⟩ => ⟨S4x4096x1024, .f32⟩
  | .hbm, ⟨14, _⟩ => ⟨S4x512x4096, .f32⟩
  | .hbm, ⟨15, _⟩ => ⟨S4x4096x1024, .f32⟩
  | .hbm, ⟨16, _⟩ => ⟨S4x4096x1024, .f32⟩
  | .hbm, ⟨17, _⟩ => ⟨S4x6144, .f32⟩
  | .hbm, ⟨18, _⟩ => ⟨S4x1x6144, .f32⟩
  | .hbm, ⟨19, _⟩ => ⟨S4x1x1024, .f32⟩
  | .hbm, ⟨20, _⟩ => ⟨S4x1x1024, .f32⟩
  | .hbm, ⟨21, _⟩ => ⟨S4x1x1024, .f32⟩
  | .hbm, ⟨22, _⟩ => ⟨S4x1x1024, .f32⟩
  | .hbm, ⟨23, _⟩ => ⟨S4x1x1024, .f32⟩
  | .hbm, ⟨24, _⟩ => ⟨S4x1x1024, .f32⟩
  | .hbm, ⟨25, _⟩ => ⟨S4x4096x1024, .f32⟩
  | .hbm, ⟨26, _⟩ => ⟨S1024x1024, .f32⟩
  | .hbm, ⟨27, _⟩ => ⟨S4x4096x1024, .f32⟩
  | .hbm, ⟨28, _⟩ => ⟨S4x4096x512, .f32⟩
  | .hbm, ⟨29, _⟩ => ⟨S512x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S1024x1024, .f32⟩
  | .hbm, ⟨35, _⟩ => ⟨S4x4096x1024, .f32⟩
  | .hbm, ⟨36, _⟩ => ⟨S_, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S1024, .f32⟩
  | .hbm, ⟨43, _⟩ => ⟨S1024, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S4x4096x1, .f32⟩
  | .hbm, ⟨63, _⟩ => ⟨S4x4096x1024, .f32⟩
  | .hbm, ⟨64, _⟩ => ⟨S4x4096x1024, .f32⟩
  | .hbm, ⟨65, _⟩ => ⟨S1x1x1024, .f32⟩
  | .hbm, ⟨66, _⟩ => ⟨S4x4096x1024, .f32⟩
  | .hbm, ⟨67, _⟩ => ⟨S4x4096x1024, .f32⟩
  | .hbm, ⟨68, _⟩ => ⟨S1x1x1024, .f32⟩
  | .hbm, ⟨69, _⟩ => ⟨S4x4096x1024, .f32⟩
  | .hbm, ⟨70, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_0 : Ref sig .tc := ⟨.hbm, 44, rfl⟩
abbrev main_v31 : Ref sig .tc := ⟨.hbm, 45, rfl⟩
abbrev main_v32 : Ref sig .tc := ⟨.hbm, 46, rfl⟩
abbrev main_cst_1 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_2 : Ref sig .tc := ⟨.hbm, 53, rfl⟩
abbrev main_v38 : Ref sig .tc := ⟨.hbm, 54, rfl⟩
abbrev main_v39 : Ref sig .tc := ⟨.hbm, 55, rfl⟩
abbrev main_cst_3 : Ref sig .tc := ⟨.hbm, 56, rfl⟩
abbrev main_v40 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Proof.AttnTile.lean ====
module

public import proofs.«01_k».proof.Proof.Gen.KernelIdeal.Frame
public import Idealize.ShloMosaic.Lib.Pointwise
public import Idealize.ShloMosaic.Lib.Pipeline.ValueKit

/-! The attention body as eight independent streams, one for each pair of a head and a group of 256 queries: a stream takes
    the keys in tiles of 256, first the context's and then the latents', and keeps a running maximum and an accumulator. -/

@[expose] public section

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]

/-- The scores of the context's 256 keys against 256 queries. -/
def scoreC (k : Vec F S1x256x128 .bf16) (q : Vec F S1x128x256 .bf16) : FVec F S256x256 .f32 :=
  matmul dot_S256x128_S128x256_S256x256_1_0_0_1_n_n none (shapeCast S256x128 k shapeCasts_S1x256x128_S256x128)
    (shapeCast S128x256 q shapeCasts_S1x128x256_S128x256) (constant S256x256 .f32 0x00000000#32)

/-- The scores of a group of 512 latent keys. -/
def scoreL (k : Vec F S1x512x128 .bf16) (q : Vec F S1x128x256 .bf16) : FVec F S512x256 .f32 :=
  matmul dot_S512x128_S128x256_S512x256_1_0_0_1_n_n none (shapeCast S512x128 k shapeCasts_S1x512x128_S512x128)
    (shapeCast S128x256 q shapeCasts_S1x128x256_S128x256) (constant S512x256 .f32 0x00000000#32)

/-- The first (`0`) or the second half of a group's scores. -/
def half (s : FVec F S512x256 .f32) : ℕ → FVec F S256x256 .f32
  | 0 => extractStridedSlice S256x256 ![0, 0] s slices_S512x256_o0_0_S256x256
  | _ + 1 => extractStridedSlice S256x256 ![256, 0] s slices_S512x256_o256_0_S256x256

/-- The largest score of each query in a tile. -/
def colMax (s : FVec F S256x256 .f32) : FVec F S1x256 .f32 :=
  shapeCast S1x256 (multiReduction .maximumf [0] S256
    (maximumf (maximumf (maximumf (extractStridedSlice S64x256 ![0, 0] s slices_S256x256_o0_0_S64x256)
      (extractStridedSlice S64x256 ![64, 0] s slices_S256x256_o64_0_S64x256))
      (extractStridedSlice S64x256 ![128, 0] s slices_S256x256_o128_0_S64x256))
      (extractStridedSlice S64x256 ![192, 0] s slices_S256x256_o192_0_S64x256))
    0xFF800000#32 reduces_S64x256_S256 (.inl rfl) rfl) shapeCasts_S256_S1x256

/-- A tile's product: the values, with rows of ones under them, times the powers of the scores. -/
def part (v : Vec F S1x64x256 .bf16) (s : FVec F S256x256 .f32) (m : FVec F S1x256 .f32) : FVec F S80x256 .f32 :=
  matmul dot_S80x256_S256x256_S80x256_1_0_0_1_n_n none
    (concatenate S80x256 0 [⟨S64x256, shapeCast S64x256 v shapeCasts_S1x64x256_S64x256⟩,
      ⟨S16x256, broadcast S16x256 (Scalar.ofBits .bf16 0x3F80#16)⟩] concatenates_S64x256_S16x256_S80x256_d0)
    (truncf .bf16 (exp2 (subf s (broadcastTo S256x256 m broadcasts_S1x256_S256x256))) bitsLt_bf16_f32)
    (constant S80x256 .f32 0x00000000#32)

/-- The accumulator brought from the maximum `m` to `m'`, and a tile's product added. -/
def update (a : FVec F S80x256 .f32) (m m' : FVec F S1x256 .f32) (p : FVec F S80x256 .f32) : FVec F S80x256 .f32 :=
  addf (mulf a (broadcastTo S80x256 (exp2 (subf m m')) broadcasts_S1x256_S80x256)) p

/-- The accumulator's first 64 rows over its row of summed powers. -/
def quot (a : FVec F S80x256 .f32) : FVec F S1x64x256 .bf16 :=
  shapeCast S1x64x256 (truncf .bf16 (divf (extractStridedSlice S64x256 ![0, 0] a slices_S80x256_o0_0_S64x256)
    (broadcastTo S64x256 (extractStridedSlice S1x256 ![64, 0] a slices_S80x256_o64_0_S1x256) broadcasts_S1x256_S64x256))
    bitsLt_bf16_f32) shapeCasts_S64x256_S1x64x256

section Stream
variable (T : ℕ → FVec F S256x256 .f32) (W : ℕ → Vec F S1x64x256 .bf16)

/-- The running maximum after tile `n`. -/
def runMax : ℕ → FVec F S1x256 .f32
  | 0 => colMax (T 0)
  | n + 1 => maximumf (runMax n) (colMax (T (n + 1)))

/-- The accumulator after tile `n`. -/
def runAcc : ℕ → FVec F S80x256 .f32
  | 0 => part (W 0) (T 0) (runMax T 0)
  | n + 1 => update (runAcc n) (runMax T n) (runMax T (n + 1)) (part (W (n + 1)) (T (n + 1)) (runMax T (n + 1)))

end Stream

/-- The queries of head `h` of the pair in group `b`, the keys and values of head `h`, and the result's place. -/
def rectQ (h b : ℕ) : Rect S1x256x1024 := Rect.unit (s := S1x256x1024) ![0, 128 * (h % 2), 256 * (b % 4)] S1x128x256.size (by
  intro a; fin_cases a <;> simp <;> omega)
def rectKC (h : ℕ) : Rect S1x256x256 := Rect.unit (s := S1x256x256) ![0, 0, 128 * (h % 2)] S1x256x128.size (by
  intro a; fin_cases a <;> simp; omega)
def rectK (h g : ℕ) : Rect S1x4096x256 := Rect.unit (s := S1x4096x256) ![0, 512 * (g % 8), 128 * (h % 2)] S1x512x128.size (by
  intro a; fin_cases a <;> simp <;> omega)
def rectVC (h : ℕ) : Rect S1x128x256 := Rect.unit (s := S1x128x256) ![0, 64 * (h % 2), 0] S1x64x256.size (by
  intro a; fin_cases a <;> simp; omega)
def rectV (h n : ℕ) : Rect S1x128x4096 := Rect.unit (s := S1x128x4096) ![0, 64 * (h % 2), 256 * (n % 16)] S1x64x256.size (by
  intro a; fin_cases a <;> simp <;> omega)

variable (x0 : Vec F S1x256x1024 .bf16) (x1 : Vec F S1x4096x256 .bf16) (x2 : Vec F S1x128x4096 .bf16)
  (x3 : Vec F S1x256x256 .bf16) (x4 : Vec F S1x128x256 .bf16)

/-- The scores of tile `n`: the context's, then the halves of the latents' groups. -/
def tileS (h b : ℕ) : ℕ → FVec F S256x256 .f32
  | 0 => scoreC (View.ld x3 (rectKC h)) (View.ld x0 (rectQ h b))
  | n + 1 => half (scoreL (View.ld x1 (rectK h (n / 2))) (View.ld x0 (rectQ h b))) (n % 2)

/-- The values of tile `n`. -/
def tileV (h : ℕ) : ℕ → Vec F S1x64x256 .bf16
  | 0 => View.ld x4 (rectVC h)
  | n + 1 => View.ld x2 (rectV h n)

/-- What the body leaves for head `h` and the queries of group `b`. -/
def stream (h b : ℕ) : FVec F S1x64x256 .bf16 := quot (runAcc (tileS x0 x1 x3 h b) (tileV x2 x4 h) 16)

/-- The body's result is that of its eight streams. -/
theorem out_eq : out0_5 x0 x1 x2 x3 x4 = View.canon
    [⟨r0_67, stream x0 x1 x2 x3 x4 1 3⟩, ⟨r0_66, stream x0 x1 x2 x3 x4 1 2⟩,
     ⟨r0_65, stream x0 x1 x2 x3 x4 1 1⟩, ⟨r0_64, stream x0 x1 x2 x3 x4 1 0⟩,
     ⟨r0_63, stream x0 x1 x2 x3 x4 0 3⟩, ⟨r0_62, stream x0 x1 x2 x3 x4 0 2⟩,
     ⟨r0_61, stream x0 x1 x2 x3 x4 0 1⟩, ⟨r0_60, stream x0 x1 x2 x3 x4 0 0⟩] := rfl

end Cert.KernelIdeal.Hand

end
-- ==== Proof.SoftmaxTiles.lean ====
module

public import Idealize.ShloMosaic.Lib.Pointwise
public import Idealize.ShloMosaic.Lib.Pipeline.ValueKit

/-! Softmax over tiles of keys with a running maximum, over the extended reals: with real scores the accumulator and the
    denominator, each rescaled at every tile, have the quotient that the plain softmax weighs the values by. -/

@[expose] public section

noncomputable section

namespace Cert.SoftmaxTiles

open Finset Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A nonnegative real factor goes into a sum of extended reals. -/
theorem sum_mul_real {ι : Type*} (s : Finset ι) (f : ι → EReal) {q : ℝ} (hq : 0 ≤ q) :
    (∑ i ∈ s, f i) * (q : EReal) = ∑ i ∈ s, f i * (q : EReal) := by
  classical
  induction s using Finset.induction_on with
  | empty => simp
  | insert a s ha ih =>
    rw [sum_insert ha, sum_insert ha, EReal.right_distrib_of_nonneg_of_ne_top (by exact_mod_cast hq) (EReal.coe_ne_top q), ih]

theorem max_real {x y : EReal} (hx : ∃ r : ℝ, x = r) (hy : ∃ r : ℝ, y = r) : ∃ r : ℝ, max x y = r := by
  rcases max_choice x y with h | h <;> rw [h]
  · exact hx
  · exact hy

/-- The largest of finitely many reals, at least one, is real. -/
theorem fold_max_real {ι : Type*} [Fintype ι] [Nonempty ι] (f : ι → EReal) (h : ∀ i, ∃ r : ℝ, f i = r) :
    ∃ r : ℝ, univ.fold max ⊥ f = r := by
  suffices ∀ s : Finset ι, s.Nonempty → ∃ r : ℝ, s.fold max ⊥ f = r from this univ univ_nonempty
  intro s hs
  induction hs using Finset.Nonempty.cons_induction with
  | singleton a => rw [fold_singleton, max_bot_right]; exact h a
  | cons a s ha hs ih => rw [fold_cons]; exact max_real (h a) ih

theorem pow_pos (x : ℝ) : 0 < Real.rpow 2 x := Real.rpow_pos_of_pos (by norm_num) x

theorem pow_mul (x y z : ℝ) : Real.rpow 2 (x - y) * Real.rpow 2 (y - z) = Real.rpow 2 (x - z) :=
  (Real.rpow_add (by norm_num) _ _).symm.trans (by rw [sub_add_sub_cancel]; rfl)

theorem pow_sub (x y : ℝ) : Real.rpow 2 (x - y) = Real.rpow 2 x / Real.rpow 2 y := Real.rpow_sub (by norm_num) x y

section Tiles
variable {n : ℕ} (w : ℕ → Fin n → EReal) (t : ℕ → Fin n → ℝ) (μ : ℕ → ℝ)

/-- The accumulator after tile `i`, rescaled at each tile from the old maximum to the new. -/
def acc : ℕ → EReal
  | 0 => ∑ k, w 0 k * (Real.rpow 2 (t 0 k - μ 0) : ℝ)
  | i + 1 => acc i * (Real.rpow 2 (μ i - μ (i + 1)) : ℝ) + ∑ k, w (i + 1) k * (Real.rpow 2 (t (i + 1) k - μ (i + 1)) : ℝ)

/-- After tile `i` every weight stands against the maximum of that tile. -/
theorem acc_eq (i : ℕ) : acc w t μ i = ∑ j ∈ range (i + 1), ∑ k, w j k * (Real.rpow 2 (t j k - μ i) : ℝ) := by
  induction i with
  | zero => simp [acc]
  | succ i ih =>
    rw [acc, ih, sum_range_succ (n := i + 1), sum_mul_real _ _ (pow_pos _).le]
    congr 1
    refine sum_congr rfl fun j _ => ?_
    rw [sum_mul_real _ _ (pow_pos _).le]
    refine sum_congr rfl fun k _ => ?_
    rw [mul_assoc, ← EReal.coe_mul, pow_mul]

/-- The sum of the powers over the first tiles. -/
def denom (i : ℕ) : ℝ := ∑ j ∈ range (i + 1), ∑ k, Real.rpow 2 (t j k)

theorem denom_pos [NeZero n] (i : ℕ) : 0 < denom t i :=
  sum_pos (fun _ _ => sum_pos (fun _ _ => pow_pos _) univ_nonempty) ⟨0, by simp⟩

theorem acc_one (i : ℕ) : acc (fun _ _ => 1) t μ i = ((denom t i / Real.rpow 2 (μ i) : ℝ) : EReal) := by
  rw [acc_eq, denom, sum_div, coe_sum]
  refine sum_congr rfl fun j _ => ?_
  rw [sum_div, coe_sum]
  refine sum_congr rfl fun k _ => ?_
  rw [one_mul, pow_sub]

/-- The quotient of the accumulator by the denominator: each value with its softmax weight, whatever the maxima were. -/
theorem quot_eq [NeZero n] (i : ℕ) :
    Ideal.div (acc w t μ i) (acc (fun _ _ => 1) t μ i)
      = ∑ j ∈ range (i + 1), ∑ k, w j k * ((Real.rpow 2 (t j k) / denom t i : ℝ) : EReal) := by
  have hz : 0 < denom t i / Real.rpow 2 (μ i) := div_pos (denom_pos t i) (pow_pos _)
  rw [acc_one, Ideal.div_coe hz.ne', acc_eq, sum_mul_real _ _ (by positivity)]
  refine sum_congr rfl fun j _ => ?_
  rw [sum_mul_real _ _ (by positivity)]
  refine sum_congr rfl fun k _ => ?_
  rw [mul_assoc, ← EReal.coe_mul, pow_sub]
  congr 2
  have h1 := (pow_pos (μ i)).ne'
  have h2 := (denom_pos t i).ne'
  field_simp

end Tiles

/-- The plain softmax's weight, whatever real the scores are taken against. -/
theorem weight_eq {n : ℕ} [NeZero n] (s : Fin n → ℝ) (M : ℝ) (j : Fin n) :
    Ideal.div (Ideal.exp ((s j : EReal) - (M : EReal))) (∑ i, Ideal.exp ((s i : EReal) - (M : EReal)))
      = ((Real.exp (s j) / ∑ i, Real.exp (s i) : ℝ) : EReal) := by
  have hp : 0 < ∑ i, Real.exp (s i - M) := sum_pos (fun _ _ => Real.exp_pos _) univ_nonempty
  have e : ∑ i, Ideal.exp ((s i : EReal) - (M : EReal)) = ((∑ i, Real.exp (s i - M) : ℝ) : EReal) := by
    rw [coe_sum]
    exact sum_congr rfl fun i _ => by rw [← EReal.coe_sub, Ideal.exp_coe]
  rw [e, Ideal.div_coe hp.ne', ← EReal.coe_sub, Ideal.exp_coe, ← EReal.coe_mul]
  congr 1
  simp only [Real.exp_sub, ← sum_div]
  have h1 := (Real.exp_pos M).ne'
  have h2 : (∑ i, Real.exp (s i)) ≠ 0 := (sum_pos (fun i _ => Real.exp_pos (s i)) univ_nonempty).ne'
  field_simp

/-- The power of two of a score in units of log 2 is the exponential of the score. -/
theorem pow_div_log (x : ℝ) : Real.rpow 2 (x / Real.log 2) = Real.exp x := by
  have h : Real.log 2 ≠ 0 := (Real.log_pos (by norm_num)).ne'
  refine (Real.rpow_def_of_pos (by norm_num) _).trans ?_
  rw [mul_div_cancel₀ _ h]

end Cert.SoftmaxTiles

end
-- ==== Proof.AttnValue.lean ====
module

public import proofs.«01_k».proof.Proof.Gen.KernelIdeal.Value
public import proofs.«01_k».proof.Proof.AttnTile
public import proofs.«01_k».proof.Proof.SoftmaxTiles

/-! What a stream leaves, over the extended reals: with real scores, the values with their softmax weights. -/

@[expose] public section

set_option maxRecDepth 16384

noncomputable section

namespace Cert.KernelIdeal.Hand

open Cert.KernelIdeal Cert.KernelIdeal.Gen Idealize.ShloMosaic Idealize.ShloMosaic.TcCoe Idealize.SL.Sem

theorem scoreC_apply (k : Vec Ideal S1x256x128 .bf16) (q : Vec Ideal S1x128x256 .bf16) (r c : Fin 256) :
    scoreC k q (ix2 r c) = ∑ d : Fin 128, k (ix3 0 r d) * q (ix3 0 d c) := by
  pointwise [scoreC]

theorem scoreL_apply (k : Vec Ideal S1x512x128 .bf16) (q : Vec Ideal S1x128x256 .bf16) (r : Fin 512) (c : Fin 256) :
    scoreL k q (ix2 r c) = ∑ d : Fin 128, k (ix3 0 r d) * q (ix3 0 d c) := by
  pointwise [scoreL]

theorem half_apply (s : FVec Ideal S512x256 .f32) (n : ℕ) (r c : Fin 256) :
    half s (n % 2) (ix2 r c) = s (ix2 ⟨256 * (n % 2) + r.val, by omega⟩ c) := by
  rcases Nat.mod_two_eq_zero_or_one n with h | h
  · simp only [h]
    pointwise [half]
  · simp only [h]
    pointwise [half]

theorem part_value (v : Vec Ideal S1x64x256 .bf16) (s : FVec Ideal S256x256 .f32) (m : FVec Ideal S1x256 .f32) (d : Fin 64)
    (c : Fin 256) : part v s m (ix2 ⟨d.val, by omega⟩ c)
      = ∑ k : Fin 256, v (ix3 0 d k) * Ideal.exp2 (s (ix2 k c) - m (ix2 0 c)) := by
  pointwise [part]
  rfl

theorem part_ones (v : Vec Ideal S1x64x256 .bf16) (s : FVec Ideal S256x256 .f32) (m : FVec Ideal S1x256 .f32)
    (c : Fin 256) : part v s m (ix2 ⟨64, by omega⟩ c) = ∑ k : Fin 256, 1 * Ideal.exp2 (s (ix2 k c) - m (ix2 0 c)) := by
  pointwise [part]
  rfl

theorem update_apply (a : FVec Ideal S80x256 .f32) (m m' : FVec Ideal S1x256 .f32) (p : FVec Ideal S80x256 .f32) (r : Fin 80)
    (c : Fin 256) : update a m m' p (ix2 r c)
      = a (ix2 r c) * Ideal.exp2 (m (ix2 0 c) - m' (ix2 0 c)) + p (ix2 r c) := by
  pointwise [update]
  rfl

theorem quot_apply (a : FVec Ideal S80x256 .f32) (d : Fin 64) (c : Fin 256) :
    quot a (ix3 0 d c) = Ideal.div (a (ix2 ⟨d.val, by omega⟩ c)) (a (ix2 ⟨64, by omega⟩ c)) := by
  pointwise [quot]

/-- The largest of a column of real scores is real. -/
theorem colMax_real (s : FVec Ideal S256x256 .f32) (c : Fin 256) (h : ∀ k, ∃ r : ℝ, s (ix2 k c) = r) :
    ∃ r : ℝ, colMax s (ix2 0 c) = r := by
  pointwise [colMax]
  have e : Ideal.ofBits FTy.f32 4286578688#32 = ⊥ := by simp [Ideal.ofBits, Ideal.ieee]
  rw [e]
  refine SoftmaxTiles.fold_max_real _ fun x => ?_
  exact SoftmaxTiles.max_real (SoftmaxTiles.max_real (SoftmaxTiles.max_real (h _) (h _)) (h _)) (h _)

section Stream
variable (T : ℕ → FVec Ideal S256x256 .f32) (W : ℕ → Vec Ideal S1x64x256 .bf16) (c : Fin 256) (t : ℕ → Fin 256 → ℝ)
  (hT : ∀ n k, T n (ix2 k c) = (t n k : EReal))
include hT

theorem runMax_real (n : ℕ) : ∃ r : ℝ, runMax T n (ix2 0 c) = r := by
  induction n with
  | zero => exact colMax_real _ c fun k => ⟨_, hT 0 k⟩
  | succ n ih => exact SoftmaxTiles.max_real ih (colMax_real _ c fun k => ⟨_, hT (n + 1) k⟩)

theorem runAcc_value (μ : ℕ → ℝ) (hμ : ∀ n, runMax T n (ix2 0 c) = (μ n : EReal)) (d : Fin 64) (n : ℕ) :
    runAcc T W n (ix2 ⟨d.val, by omega⟩ c) = SoftmaxTiles.acc (fun j k => W j (ix3 0 d k)) t μ n := by
  induction n with
  | zero => rw [runAcc, part_value]; simp only [hT, hμ, ← EReal.coe_sub, Ideal.exp2_coe, SoftmaxTiles.acc]
  | succ n ih =>
    rw [runAcc, update_apply, ih, part_value]
    simp only [hT, hμ, ← EReal.coe_sub, Ideal.exp2_coe, SoftmaxTiles.acc]

theorem runAcc_ones (μ : ℕ → ℝ) (hμ : ∀ n, runMax T n (ix2 0 c) = (μ n : EReal)) (n : ℕ) :
    runAcc T W n (ix2 ⟨64, by omega⟩ c) = SoftmaxTiles.acc (fun _ _ => 1) t μ n := by
  induction n with
  | zero => rw [runAcc, part_ones]; simp only [hT, hμ, ← EReal.coe_sub, Ideal.exp2_coe, SoftmaxTiles.acc]
  | succ n ih =>
    rw [runAcc, update_apply, ih, part_ones]
    simp only [hT, hμ, ← EReal.coe_sub, Ideal.exp2_coe, SoftmaxTiles.acc]

/-- The quotient a stream leaves: each value with the softmax weight of its key. -/
theorem runQuot_apply (d : Fin 64) (n : ℕ) : quot (runAcc T W n) (ix3 0 d c)
    = ∑ j ∈ Finset.range (n + 1), ∑ k, W j (ix3 0 d k) * ((Real.rpow 2 (t j k) / SoftmaxTiles.denom t n : ℝ) : EReal) := by
  choose μ hμ using runMax_real T c t hT
  rw [quot_apply, runAcc_value T W c t hT μ hμ, runAcc_ones T W c t hT μ hμ, SoftmaxTiles.quot_eq]

end Stream

variable (x0 : Vec Ideal S1x256x1024 .bf16) (x1 : Vec Ideal S1x4096x256 .bf16) (x2 : Vec Ideal S1x128x4096 .bf16)
  (x3 : Vec Ideal S1x256x256 .bf16) (x4 : Vec Ideal S1x128x256 .bf16)

/-- The scores of the context's tile. -/
theorem tileS_zero (h b : Fin 8) (r c : Fin 256) : tileS x0 x1 x3 h.val b.val 0 (ix2 r c)
    = ∑ d : Fin 128, x3 (ix3 0 r ⟨128 * (h.val % 2) + d.val, by omega⟩)
        * x0 (ix3 0 ⟨128 * (h.val % 2) + d.val, by omega⟩ ⟨256 * (b.val % 4) + c.val, by omega⟩) := by
  refine (scoreC_apply _ _ r c).trans (Finset.sum_congr rfl fun d _ => ?_)
  pointwise [rectKC, rectQ]

/-- The scores of the latents' tile `n`. -/
theorem tileS_succ (h b : Fin 8) (n : Fin 16) (r c : Fin 256) : tileS x0 x1 x3 h.val b.val (n.val + 1) (ix2 r c)
    = ∑ d : Fin 128, x1 (ix3 0 ⟨256 * n.val + r.val, by omega⟩ ⟨128 * (h.val % 2) + d.val, by omega⟩)
        * x0 (ix3 0 ⟨128 * (h.val % 2) + d.val, by omega⟩ ⟨256 * (b.val % 4) + c.val, by omega⟩) := by
  refine (half_apply _ n.val r c).trans ((scoreL_apply _ _ _ c).trans (Finset.sum_congr rfl fun d _ => ?_))
  pointwise [rectK, rectQ]
  congr 3
  exact Fin.ext (by simp only []; omega)

theorem tileV_zero (h : Fin 8) (d : Fin 64) (k : Fin 256) :
    tileV x2 x4 h.val 0 (ix3 0 d k) = x4 (ix3 0 ⟨64 * (h.val % 2) + d.val, by omega⟩ k) := by
  change View.ld x4 (rectVC h.val) (ix3 0 d k) = _
  pointwise [rectVC]

theorem tileV_succ (h : Fin 8) (n : Fin 16) (d : Fin 64) (k : Fin 256) : tileV x2 x4 h.val (n.val + 1) (ix3 0 d k)
    = x2 (ix3 0 ⟨64 * (h.val % 2) + d.val, by omega⟩ ⟨256 * n.val + k.val, by omega⟩) := by
  change View.ld x2 (rectV h.val n.val) (ix3 0 d k) = _
  pointwise [rectV]
  congr 2
  exact Fin.ext (by simp only []; omega)

end Cert.KernelIdeal.Hand

end
-- ==== Proof.AttnSpec.lean ====
module

public import proofs.«01_k».proof.Proof.Gen.KernelIdeal.Value
public import proofs.«01_k».proof.Proof.SoftmaxTiles

/-! The attention as one function of its arguments: softmax over the context's and the latents' keys together. -/

@[expose] public section

noncomputable section

namespace Cert.Attention

open Cert.KernelIdeal Cert.KernelIdeal.Gen Idealize.ShloMosaic Idealize.ShloMosaic.TcCoe

/-- Entry `d` of key `j` of head `h`: the context's 256 keys come first. -/
def keyAt (k : Vec Ideal S4x4096x8x96 .f32) (kc : Vec Ideal S4x256x8x96 .f32) (b : Fin 4) (h : Fin 8) (j : Fin 4352)
    (d : Fin 96) : EReal :=
  if hj : j.val < 256 then kc (ix4 b ⟨j.val, hj⟩ h d) else k (ix4 b ⟨j.val - 256, by omega⟩ h d)

/-- Entry `d` of value `j` of head `h`. -/
def valAt (v : Vec Ideal S4x4096x8x64 .f32) (vc : Vec Ideal S4x256x8x64 .f32) (b : Fin 4) (h : Fin 8) (j : Fin 4352)
    (d : Fin 64) : EReal :=
  if hj : j.val < 256 then vc (ix4 b ⟨j.val, hj⟩ h d) else v (ix4 b ⟨j.val - 256, by omega⟩ h d)

/-- The scale of the scores, the number that its word denotes. -/
def scale : ℝ := (Ideal.ofBits .f32 0x3DD105EC#32).toReal

theorem scale_eq : Ideal.ofBits .f32 0x3DD105EC#32 = (scale : EReal) := by
  have h : ∃ r : ℝ, Ideal.ofBits .f32 0x3DD105EC#32 = r := ⟨_, rfl⟩
  obtain ⟨r, h⟩ := h
  rw [scale, h, EReal.toReal_coe]

/-- The score of query `l` against key `j`. -/
def score (q k : Vec Ideal S4x4096x8x96 .f32) (kc : Vec Ideal S4x256x8x96 .f32) (b : Fin 4) (h : Fin 8) (l : Fin 4096)
    (j : Fin 4352) : ℝ :=
  (∑ d : Fin 96, (q (ix4 b l h d)).toReal * (keyAt k kc b h j d).toReal) * scale

/-- The weight of value `j` for query `l`. -/
def weight (q k : Vec Ideal S4x4096x8x96 .f32) (kc : Vec Ideal S4x256x8x96 .f32) (b : Fin 4) (h : Fin 8) (l : Fin 4096)
    (j : Fin 4352) : ℝ :=
  Real.exp (score q k kc b h l j) / ∑ i, Real.exp (score q k kc b h l i)

/-- The attention's result: row `64 h + d` holds entry `d` of head `h`. -/
def G (q k : Vec Ideal S4x4096x8x96 .f32) (v : Vec Ideal S4x4096x8x64 .f32) (kc : Vec Ideal S4x256x8x96 .f32)
    (vc : Vec Ideal S4x256x8x64 .f32) : Vec Ideal S4x512x4096 .bf16 := fun (y : S4x512x4096.Idx) =>
  ∑ j : Fin 4352, valAt v vc (y 0) ⟨(y 1).val / 64, Nat.div_lt_of_lt_mul (y 1).isLt⟩ j ⟨(y 1).val % 64, Nat.mod_lt _ (by decide)⟩
    * ((weight q k kc (y 0) ⟨(y 1).val / 64, Nat.div_lt_of_lt_mul (y 1).isLt⟩ (y 2) j : ℝ) : EReal)

/-- Every entry is real. -/
def Real' {s : Shape} (x : Vec Ideal s .f32) : Prop := ∀ i, ∃ r : ℝ, (x i : EReal) = r

theorem Real'.coe {s : Shape} {x : Vec Ideal s .f32} (h : Real' x) (i : s.Idx) : (x i : EReal) = ((x i : EReal).toReal : EReal) := by
  obtain ⟨r, h⟩ := h i
  rw [h, EReal.toReal_coe]

theorem keyAt_coe {k : Vec Ideal S4x4096x8x96 .f32} {kc : Vec Ideal S4x256x8x96 .f32} (hk : Real' k) (hc : Real' kc) (b : Fin 4)
    (h : Fin 8) (j : Fin 4352) (d : Fin 96) : keyAt k kc b h j d = ((keyAt k kc b h j d).toReal : EReal) := by
  unfold keyAt
  split
  · exact hc.coe _
  · exact hk.coe _

end Cert.Attention

end
-- ==== Proof.AttnStream.lean ====
module

public import proofs.«01_k».proof.Proof.AttnValue
public import proofs.«01_k».proof.Proof.AttnSpec
public import Idealize.ShloMosaic.Lib.Pipeline.ValueKit

/-! A stream's result in terms of the scores and the values of all its keys. -/

@[expose] public section

set_option maxRecDepth 16384

noncomputable section

namespace Cert.KernelIdeal.Hand

open Cert.KernelIdeal Cert.KernelIdeal.Gen Idealize.ShloMosaic Idealize.ShloMosaic.TcCoe Idealize.SL.Sem
open Cert.Attention

theorem runAcc_congr {T T' : ℕ → FVec Ideal S256x256 .f32} (W : ℕ → Vec Ideal S1x64x256 .bf16) (n : ℕ) (h : ∀ j ≤ n, T j = T' j) :
    runMax T n = runMax T' n ∧ runAcc T W n = runAcc T' W n := by
  induction n with
  | zero => simp only [runMax, runAcc, h 0 le_rfl, and_self]
  | succ n ih =>
    obtain ⟨h1, h2⟩ := ih fun j hj => h j (by omega)
    simp only [runMax, runAcc, h1, h2, h (n + 1) le_rfl, and_self]

section
variable (x0 : Vec Ideal S1x256x1024 .bf16) (x1 : Vec Ideal S1x4096x256 .bf16) (x2 : Vec Ideal S1x128x4096 .bf16)
  (x3 : Vec Ideal S1x256x256 .bf16) (x4 : Vec Ideal S1x128x256 .bf16) (h b : Fin 8) (c : Fin 256)

/-- Tile `i` holds the scores of keys `256 i …`, the context's 256 keys first. -/
theorem tile_score (s : Fin 4352 → ℝ)
    (hs₀ : ∀ r : Fin 256, ∑ d : Fin 128, x3 (ix3 0 r ⟨128 * (h.val % 2) + d.val, by omega⟩)
      * x0 (ix3 0 ⟨128 * (h.val % 2) + d.val, by omega⟩ ⟨256 * (b.val % 4) + c.val, by omega⟩)
      = ((s ⟨r.val, by omega⟩ / Real.log 2 : ℝ) : EReal))
    (hs₁ : ∀ l : Fin 4096, ∑ d : Fin 128, x1 (ix3 0 l ⟨128 * (h.val % 2) + d.val, by omega⟩)
      * x0 (ix3 0 ⟨128 * (h.val % 2) + d.val, by omega⟩ ⟨256 * (b.val % 4) + c.val, by omega⟩)
      = ((s ⟨256 + l.val, by omega⟩ / Real.log 2 : ℝ) : EReal)) (i : Fin 17) (k : Fin 256) :
    tileS x0 x1 x3 h.val b.val i.val (ix2 k c) = ((s ⟨i.val * 256 + k.val, by omega⟩ / Real.log 2 : ℝ) : EReal) := by
  match i with
  | ⟨0, _⟩ =>
    refine (tileS_zero x0 x1 x3 h b k c).trans ((hs₀ k).trans ?_)
    congr 3
    exact Fin.ext (by simp only []; omega)
  | ⟨n + 1, hn⟩ =>
    refine (tileS_succ x0 x1 x3 h b ⟨n, by omega⟩ k c).trans ((hs₁ ⟨256 * n + k.val, by omega⟩).trans ?_)
    congr 3
    exact Fin.ext (by simp only []; omega)

/-- Tile `i` holds the values of keys `256 i …`. -/
theorem tile_value (d : Fin 64) (w : Fin 4352 → EReal)
    (hw₀ : ∀ r : Fin 256, x4 (ix3 0 ⟨64 * (h.val % 2) + d.val, by omega⟩ r) = w ⟨r.val, by omega⟩)
    (hw₁ : ∀ l : Fin 4096, x2 (ix3 0 ⟨64 * (h.val % 2) + d.val, by omega⟩ l) = w ⟨256 + l.val, by omega⟩) (i : Fin 17) (k : Fin 256) :
    tileV x2 x4 h.val i.val (ix3 0 d k) = w ⟨i.val * 256 + k.val, by omega⟩ := by
  match i with
  | ⟨0, _⟩ =>
    refine (tileV_zero x2 x4 h d k).trans ((hw₀ k).trans (congrArg w ?_))
    exact Fin.ext (by simp only []; omega)
  | ⟨n + 1, hn⟩ =>
    refine (tileV_succ x2 x4 h ⟨n, by omega⟩ d k).trans ((hw₁ ⟨256 * n + k.val, by omega⟩).trans (congrArg w ?_))
    exact Fin.ext (by simp only []; omega)

/-- A stream leaves the values weighted by the softmax of all scores. -/
theorem stream_apply (d : Fin 64) (s : Fin 4352 → ℝ) (w : Fin 4352 → EReal)
    (hs : ∀ (i : Fin 17) (k : Fin 256),
      tileS x0 x1 x3 h.val b.val i.val (ix2 k c) = ((s ⟨i.val * 256 + k.val, by omega⟩ / Real.log 2 : ℝ) : EReal))
    (hw : ∀ (i : Fin 17) (k : Fin 256), tileV x2 x4 h.val i.val (ix3 0 d k) = w ⟨i.val * 256 + k.val, by omega⟩) :
    stream x0 x1 x2 x3 x4 h.val b.val (ix3 0 d c) = ∑ j, w j * ((Real.exp (s j) / ∑ i, Real.exp (s i) : ℝ) : EReal) := by
  have hm (n : ℕ) : min n 16 < 17 := by omega
  have hd : SoftmaxTiles.denom (fun n (k : Fin 256) => s ⟨min n 16 * 256 + k.val, by omega⟩ / Real.log 2) 16 = ∑ i, Real.exp (s i) := by
    unfold SoftmaxTiles.denom
    simp only [SoftmaxTiles.pow_div_log]
    rw [Finset.sum_range]
    refine Eq.trans (Finset.sum_congr rfl fun j _ => Finset.sum_congr rfl fun k _ => ?_) (Fin.sum_mul_add_fin 17 256 fun l => Real.exp (s l))
    congr 2
    exact Fin.ext (by simp only []; omega)
  unfold stream
  rw [(runAcc_congr (T' := fun n => tileS x0 x1 x3 h.val b.val (min n 16)) _ 16 fun j hj => by simp only [min_eq_left hj]).2,
    runQuot_apply _ _ c (fun n k => s ⟨min n 16 * 256 + k.val, by omega⟩ / Real.log 2) (fun n k => hs ⟨min n 16, hm n⟩ k) d 16, hd,
    Finset.sum_range]
  refine Eq.trans (Finset.sum_congr rfl fun j _ => Finset.sum_congr rfl fun k _ => ?_)
    (Fin.sum_mul_add_fin 17 256 fun l => w l * ((Real.exp (s l) / ∑ i, Real.exp (s i) : ℝ) : EReal))
  have hj : min j.val 16 = j.val := by omega
  simp only [hj]
  rw [hw j k, SoftmaxTiles.pow_div_log]

end

theorem sum_pad (f : Fin 96 → ℝ) : ∑ d : Fin 128, (if h : d.val < 96 then f ⟨d.val, h⟩ else 0) = ∑ d, f d := by
  refine (Fin.sum_univ_add (a := 96) (b := 32) _).trans ?_
  simp

theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee]
    rw [← EReal.coe_mul]
    norm_num
  rw [e, Ideal.log_coe, if_neg (by norm_num)]

/-- A query's entry as the call takes it. -/
def scaled (x : EReal) : EReal := Ideal.div (x * Ideal.ofBits .f32 0x3DD105EC#32) (Ideal.log (Ideal.ofBits .f32 0x40000000#32))

/-- The product over the padded width is the score over the base's logarithm. -/
theorem score_pad (a b : Fin 128 → EReal) (f g : Fin 96 → ℝ) (ha : ∀ d, a d = if h : d.val < 96 then (f ⟨d.val, h⟩ : EReal) else 0)
    (hb : ∀ d, b d = scaled (if h : d.val < 96 then (g ⟨d.val, h⟩ : EReal) else 0)) :
    ∑ d, a d * b d = (((∑ d, g d * f d) * scale / Real.log 2 : ℝ) : EReal) := by
  have e (d : Fin 128) : a d * b d
      = (((if h : d.val < 96 then g ⟨d.val, h⟩ * f ⟨d.val, h⟩ * (scale * (1 / Real.log 2)) else 0 : ℝ)) : EReal) := by
    rw [ha, hb, scaled, scale_eq, log_two, Ideal.div_coe (Real.log_pos (by norm_num)).ne']
    split
    · rw [← EReal.coe_mul, ← EReal.coe_mul, ← EReal.coe_mul]
      congr 1
      ring
    · simp
  rw [Finset.sum_congr rfl fun d _ => e d, ← SoftmaxTiles.coe_sum, sum_pad fun d => g d * f d * (scale * (1 / Real.log 2)), ← Finset.sum_mul]
  congr 1
  ring

end Cert.KernelIdeal.Hand

end
-- ==== Proof.AttnHost.lean ====
module

public import proofs.«01_k».proof.Proof.AttnValue
public import proofs.«01_k».proof.Proof.AttnSpec

/-! The arrays the attention call takes, in terms of the program's arguments. -/

@[expose] public section

set_option maxRecDepth 16384

noncomputable section

namespace Cert.KernelIdeal.Hand

open Cert.KernelIdeal Cert.KernelIdeal.Gen Idealize.ShloMosaic Idealize.ShloMosaic.TcCoe Idealize.SL.Sem
open Cert.Attention

section Prep
variable {F : FTy → Type} [FloatOps F]

/-- The heads of the latents' rows, each padded to 128 with zeros. -/
def padL (x : FVec F S4x4096x8x96 .f32) : FVec F S4x4096x1024 .f32 :=
  shapeCast S4x4096x1024 (concatenate S4x4096x8x128 3
    [⟨S4x4096x8x96, x⟩, ⟨S4x4096x8x32, broadcastInDim S4x4096x8x32 ![] bcast_S_S4x4096x8x32 (constant (F := F) S_ .f32 0x00000000#32)⟩]
    concatenates_S4x4096x8x96_S4x4096x8x32_S4x4096x8x128_d3) shapeCasts_S4x4096x8x128_S4x4096x1024

/-- The same of the context's rows. -/
def padC (x : FVec F S4x256x8x96 .f32) : FVec F S4x256x1024 .f32 :=
  shapeCast S4x256x1024 (concatenate S4x256x8x128 3
    [⟨S4x256x8x96, x⟩, ⟨S4x256x8x32, broadcastInDim S4x256x8x32 ![] bcast_S_S4x256x8x32 (constant (F := F) S_ .f32 0x00000000#32)⟩]
    concatenates_S4x256x8x96_S4x256x8x32_S4x256x8x128_d3) shapeCasts_S4x256x8x128_S4x256x1024

/-- The latents' and the context's keys as the call takes them. -/
def prepK (x : FVec F S4x4096x8x96 .f32) : FVec F S4x4096x1024 .bf16 := truncf (F := F) .bf16 (padL x) bitsLt_bf16_f32
def prepKC (x : FVec F S4x256x8x96 .f32) : FVec F S4x256x1024 .bf16 := truncf (F := F) .bf16 (padC x) bitsLt_bf16_f32

/-- The queries' scaling, and their layout with the queries last. -/
def scaleQ (x : FVec F S4x4096x1024 .f32) : FVec F S4x1024x4096 .bf16 :=
  transpose S4x1024x4096 [0, 2, 1] (truncf (F := F) .bf16 (Host.divf (mulf x
    (broadcastInDim S4x4096x1024 ![] bcast_S_S4x4096x1024 (constant (F := F) S_ .f32 0x3DD105EC#32)))
    (broadcastInDim S4x4096x1024 ![] bcast_S_S4x4096x1024 (Host.log (constant (F := F) S_ .f32 0x40000000#32)))) bitsLt_bf16_f32)
    transposes_S4x4096x1024_S4x1024x4096_0_2_1

/-- The latents' values, laid out with the keys last. -/
def prepV (x : FVec F S4x4096x8x64 .f32) : FVec F S4x512x4096 .bf16 :=
  transpose S4x512x4096 [0, 2, 1] (truncf (F := F) .bf16 (shapeCast S4x4096x512 x shapeCasts_S4x4096x8x64_S4x4096x512) bitsLt_bf16_f32)
    transposes_S4x4096x512_S4x512x4096_0_2_1

/-- The context's values, laid out with the keys last. -/
def prepVC (x : FVec F S4x256x8x64 .f32) : FVec F S4x512x256 .bf16 :=
  transpose S4x512x256 [0, 2, 1] (truncf (F := F) .bf16 (shapeCast S4x256x512 x shapeCasts_S4x256x8x64_S4x256x512) bitsLt_bf16_f32)
    transposes_S4x256x512_S4x512x256_0_2_1

variable (m : (ℓ : Loc nD τ sig) → Buf (Elt F) ℓ) (c : Dev nD)

theorem V_v1 : V m c main_v1 = concatenate S4x4096x8x128 3
    [⟨S4x4096x8x96, m ((c : Thread nD τ).loc main_arg0)⟩, ⟨S4x4096x8x32, broadcastInDim S4x4096x8x32 ![] bcast_S_S4x4096x8x32 (constant (F := F) S_ .f32 0x00000000#32)⟩]
    concatenates_S4x4096x8x96_S4x4096x8x32_S4x4096x8x128_d3 := rfl
theorem V_v2 : V m c main_v2 = shapeCast S4x4096x1024 (V m c main_v1) shapeCasts_S4x4096x8x128_S4x4096x1024 := rfl
theorem V_v9 : V m c main_v9 = scaleQ (F := F) (V m c main_v2) := rfl
theorem V_q : V m c main_v9 = scaleQ (F := F) (padL (F := F) (m ((c : Thread nD τ).loc main_arg0))) := by
  rw [V_v9, V_v2, V_v1, padL]

theorem V_v11 : V m c main_v11 = concatenate S4x4096x8x128 3
    [⟨S4x4096x8x96, m ((c : Thread nD τ).loc main_arg1)⟩, ⟨S4x4096x8x32, broadcastInDim S4x4096x8x32 ![] bcast_S_S4x4096x8x32 (constant (F := F) S_ .f32 0x00000000#32)⟩]
    concatenates_S4x4096x8x96_S4x4096x8x32_S4x4096x8x128_d3 := rfl
theorem V_v12 : V m c main_v12 = shapeCast S4x4096x1024 (V m c main_v11) shapeCasts_S4x4096x8x128_S4x4096x1024 := rfl
theorem V_v13 : V m c main_v13 = truncf (F := F) .bf16 (V m c main_v12) bitsLt_bf16_f32 := rfl
theorem V_k : V m c main_v13 = prepK (F := F) (m ((c : Thread nD τ).loc main_arg1)) := by
  rw [V_v13, V_v12, V_v11, prepK, padL]

theorem V_v18 : V m c main_v18 = concatenate S4x256x8x128 3
    [⟨S4x256x8x96, m ((c : Thread nD τ).loc main_arg3)⟩, ⟨S4x256x8x32, broadcastInDim S4x256x8x32 ![] bcast_S_S4x256x8x32 (constant (F := F) S_ .f32 0x00000000#32)⟩]
    concatenates_S4x256x8x96_S4x256x8x32_S4x256x8x128_d3 := rfl
theorem V_v19 : V m c main_v19 = shapeCast S4x256x1024 (V m c main_v18) shapeCasts_S4x256x8x128_S4x256x1024 := rfl
theorem V_v20 : V m c main_v20 = truncf (F := F) .bf16 (V m c main_v19) bitsLt_bf16_f32 := rfl
theorem V_kc : V m c main_v20 = prepKC (F := F) (m ((c : Thread nD τ).loc main_arg3)) := by
  rw [V_v20, V_v19, V_v18, prepKC, padC]

theorem V_v : V m c main_v16 = prepV (F := F) (m ((c : Thread nD τ).loc main_arg2)) := rfl
theorem V_vc : V m c main_v23 = prepVC (F := F) (m ((c : Thread nD τ).loc main_arg4)) := rfl

end Prep

theorem narrow_at {s : Shape} (x : FVec Ideal s .f32) (i : s.Idx) : truncf (F := Ideal) .bf16 x bitsLt_bf16_f32 i = x i := rfl

theorem padL_apply (x : FVec Ideal S4x4096x8x96 .f32) (b : Fin 4) (h : Fin 8) (d : Fin 128) (l : Fin 4096) :
    padL x (ix3 b l ⟨128 * h.val + d.val, by omega⟩) = if hd : d.val < 96 then x (ix4 b l h ⟨d.val, hd⟩) else 0 := by
  pointwise [padL]

theorem padC_apply (x : FVec Ideal S4x256x8x96 .f32) (b : Fin 4) (h : Fin 8) (d : Fin 128) (l : Fin 256) :
    padC x (ix3 b l ⟨128 * h.val + d.val, by omega⟩) = if hd : d.val < 96 then x (ix4 b l h ⟨d.val, hd⟩) else 0 := by
  pointwise [padC]

theorem prepK_apply (x : FVec Ideal S4x4096x8x96 .f32) (b : Fin 4) (h : Fin 8) (d : Fin 128) (l : Fin 4096) :
    prepK x (ix3 b l ⟨128 * h.val + d.val, by omega⟩) = if hd : d.val < 96 then x (ix4 b l h ⟨d.val, hd⟩) else 0 :=
  (narrow_at (padL (F := Ideal) x) _).trans (padL_apply x b h d l)

theorem prepKC_apply (x : FVec Ideal S4x256x8x96 .f32) (b : Fin 4) (h : Fin 8) (d : Fin 128) (l : Fin 256) :
    prepKC x (ix3 b l ⟨128 * h.val + d.val, by omega⟩) = if hd : d.val < 96 then x (ix4 b l h ⟨d.val, hd⟩) else 0 :=
  (narrow_at (padC (F := Ideal) x) _).trans (padC_apply x b h d l)

theorem scaleQ_apply (x : FVec Ideal S4x4096x1024 .f32) (b : Fin 4) (e : Fin 1024) (l : Fin 4096) :
    scaleQ x (ix3 b e l) = Ideal.div (x (ix3 b l e) * Ideal.ofBits .f32 0x3DD105EC#32) (Ideal.log (Ideal.ofBits .f32 0x40000000#32)) := by
  pointwise [scaleQ]

theorem prepV_apply (x : FVec Ideal S4x4096x8x64 .f32) (b : Fin 4) (h : Fin 8) (d : Fin 64) (l : Fin 4096) :
    prepV x (ix3 b ⟨64 * h.val + d.val, by omega⟩ l) = x (ix4 b l h d) := by
  pointwise [prepV]

theorem prepVC_apply (x : FVec Ideal S4x256x8x64 .f32) (b : Fin 4) (h : Fin 8) (d : Fin 64) (l : Fin 256) :
    prepVC x (ix3 b ⟨64 * h.val + d.val, by omega⟩ l) = x (ix4 b l h d) := by
  pointwise [prepVC]

end Cert.KernelIdeal.Hand

end
-- ==== Proof.AttnArr.lean ====
module

public import proofs.«01_k».proof.Proof.AttnStream
public import proofs.«01_k».proof.Proof.AttnHost
public import Idealize.ShloMosaic.Lib.Pipeline.ValueKit

/-! The attention call's result as one function of its arguments. -/

@[expose] public section

set_option maxRecDepth 16384

noncomputable section

namespace Cert.KernelIdeal.Hand

open Cert.KernelIdeal Cert.KernelIdeal.Gen Idealize.ShloMosaic Idealize.ShloMosaic.TcCoe Idealize.SL.Sem
open Cert.Attention

section Block
variable (x0 : Vec Ideal S1x256x1024 .bf16) (x1 : Vec Ideal S1x4096x256 .bf16) (x2 : Vec Ideal S1x128x4096 .bf16)
  (x3 : Vec Ideal S1x256x256 .bf16) (x4 : Vec Ideal S1x128x256 .bf16)

/-- The body's result at a place of the block. -/
def blk : Vec Ideal S1x128x1024 .bf16 := fun (y : S1x128x1024.Idx) =>
  stream x0 x1 x2 x3 x4 ((y 1).val / 64) ((y 2).val / 256)
    (ix3 0 ⟨(y 1).val % 64, Nat.mod_lt _ (by decide)⟩ ⟨(y 2).val % 256, Nat.mod_lt _ (by decide)⟩)

theorem blk_at (h b : ℕ) (x : S1x64x256.Idx) (y : S1x128x1024.Idx) (e₁ : (y 1).val = 64 * h + (x 1).val)
    (e₂ : (y 2).val = 256 * b + (x 2).val) : stream x0 x1 x2 x3 x4 h b x = blk x0 x1 x2 x3 x4 y := by
  have l₁ : (x 1).val < 64 := (x 1).isLt
  have l₂ : (x 2).val < 256 := (x 2).isLt
  have d₁ : (y 1).val / 64 = h := by omega
  have d₂ : (y 2).val / 256 = b := by omega
  unfold blk
  rw [d₁, d₂]
  refine congrArg (stream x0 x1 x2 x3 x4 h b) ?_
  funext a
  match a with
  | ⟨0, _⟩ => exact Subsingleton.elim (α := Fin 1) _ _
  | ⟨1, _⟩ => exact Fin.ext (show (x 1).val = (y 1).val % 64 by omega)
  | ⟨2, _⟩ => exact Fin.ext (show (x 2).val = (y 2).val % 256 by omega)

theorem out_apply (y : S1x128x1024.Idx) : out0_5 x0 x1 x2 x3 x4 y = blk x0 x1 x2 x3 x4 y := by
  rw [out_eq]
  refine View.canon_apply_of_pieces (Val := Elt Ideal) (blk x0 x1 x2 x3 x4) _ ?_ y (cover0_5 _ _ _ _ _ _ _ _ y)
  intro p hp x
  simp only [List.mem_cons, List.not_mem_nil, or_false] at hp
  rcases hp with rfl | rfl | rfl | rfl | rfl | rfl | rfl | rfl
  all_goals
    refine blk_at x0 x1 x2 x3 x4 _ _ x _ ?_ ?_
    · rw [Rect.emb_apply]; simp [r0_60, r0_61, r0_62, r0_63, r0_64, r0_65, r0_66, r0_67]
    · rw [Rect.emb_apply]; simp [r0_60, r0_61, r0_62, r0_63, r0_64, r0_65, r0_66, r0_67]

end Block

variable (m : (ℓ : Loc nD τ sig) → Buf (Elt Ideal) ℓ) (c : Dev nD)

/-- The arguments a run starts from. -/
abbrev argQ : Vec Ideal S4x4096x8x96 .f32 := m ((c : Thread nD τ).loc main_arg0)
abbrev argK : Vec Ideal S4x4096x8x96 .f32 := m ((c : Thread nD τ).loc main_arg1)
abbrev argV : Vec Ideal S4x4096x8x64 .f32 := m ((c : Thread nD τ).loc main_arg2)
abbrev argKC : Vec Ideal S4x256x8x96 .f32 := m ((c : Thread nD τ).loc main_arg3)
abbrev argVC : Vec Ideal S4x256x8x64 .f32 := m ((c : Thread nD τ).loc main_arg4)

/-- That function of the arguments a run starts from. -/
def GM : Vec Ideal S4x512x4096 .bf16 := G (argQ m c) (argK m c) (argV m c) (argKC m c) (argVC m c)

theorem dif_coe {x : Fin 96 → EReal} (hx : ∀ d, ∃ r : ℝ, x d = r) (d : Fin 128) :
    (if h : d.val < 96 then x ⟨d.val, h⟩ else 0) = if h : d.val < 96 then ((x ⟨d.val, h⟩).toReal : EReal) else 0 := by
  split
  · obtain ⟨r, h⟩ := hx ⟨d.val, by assumption⟩
    rw [h, EReal.toReal_coe]
  · rfl

theorem scaleQ_at (x : FVec Ideal S4x4096x1024 .f32) (b : Fin 4) (e : Fin 1024) (l : Fin 4096) :
    scaleQ x (ix3 b e l) = scaled (x (ix3 b l e)) := scaleQ_apply x b e l

theorem V_q_at (b : Fin 4) (e : Fin 1024) (l : Fin 4096) :
    V m c main_v9 (ix3 b e l) = scaleQ (F := Ideal) (padL (F := Ideal) (argQ m c)) (ix3 b e l) := congrFun (V_q m c) _

theorem arr_q (hq : Real' (argQ m c)) (b : Fin 4) (h : Fin 8) (d : Fin 128) (l : Fin 4096) :
    V m c main_v9 (ix3 b ⟨128 * h.val + d.val, by omega⟩ l)
      = scaled (if hd : d.val < 96 then (((argQ m c (ix4 b l h ⟨d.val, hd⟩) : EReal).toReal : ℝ) : EReal) else 0) := by
  refine (V_q_at m c b _ l).trans ((scaleQ_at (padL (F := Ideal) (argQ m c)) b _ l).trans (congrArg scaled ?_))
  exact (padL_apply (argQ m c) b h d l).trans (dif_coe (x := fun d => argQ m c (ix4 b l h d)) (fun d => hq _) d)

theorem V_k_at (b : Fin 4) (l : Fin 4096) (e : Fin 1024) :
    V m c main_v13 (ix3 b l e) = prepK (F := Ideal) (argK m c) (ix3 b l e) := congrFun (V_k m c) _

theorem V_kc_at (b : Fin 4) (l : Fin 256) (e : Fin 1024) :
    V m c main_v20 (ix3 b l e) = prepKC (F := Ideal) (argKC m c) (ix3 b l e) := congrFun (V_kc m c) _

theorem V_v_at (b : Fin 4) (e : Fin 512) (l : Fin 4096) :
    V m c main_v16 (ix3 b e l) = prepV (F := Ideal) (argV m c) (ix3 b e l) := congrFun (V_v m c) _

theorem V_vc_at (b : Fin 4) (e : Fin 512) (l : Fin 256) :
    V m c main_v23 (ix3 b e l) = prepVC (F := Ideal) (argVC m c) (ix3 b e l) := congrFun (V_vc m c) _

theorem keyAt_l (x : Vec Ideal S4x4096x8x96 .f32) (y : Vec Ideal S4x256x8x96 .f32) (b : Fin 4) (h : Fin 8) (l : Fin 4096) (d : Fin 96) :
    keyAt x y b h ⟨256 + l.val, by omega⟩ d = x (ix4 b l h d) := by
  rw [keyAt, dif_neg (by simp only []; omega)]
  congr 2
  exact Fin.ext (by simp only []; omega)

theorem keyAt_c (x : Vec Ideal S4x4096x8x96 .f32) (y : Vec Ideal S4x256x8x96 .f32) (b : Fin 4) (h : Fin 8) (l : Fin 256) (d : Fin 96) :
    keyAt x y b h ⟨l.val, by omega⟩ d = y (ix4 b l h d) := by
  rw [keyAt, dif_pos l.isLt]

theorem valAt_l (x : Vec Ideal S4x4096x8x64 .f32) (y : Vec Ideal S4x256x8x64 .f32) (b : Fin 4) (h : Fin 8) (l : Fin 4096) (d : Fin 64) :
    valAt x y b h ⟨256 + l.val, by omega⟩ d = x (ix4 b l h d) := by
  rw [valAt, dif_neg (by simp only []; omega)]
  congr 2
  exact Fin.ext (by simp only []; omega)

theorem valAt_c (x : Vec Ideal S4x4096x8x64 .f32) (y : Vec Ideal S4x256x8x64 .f32) (b : Fin 4) (h : Fin 8) (l : Fin 256) (d : Fin 64) :
    valAt x y b h ⟨l.val, by omega⟩ d = y (ix4 b l h d) := by
  rw [valAt, dif_pos l.isLt]

/-- The padded row of a key, in real numbers. -/
theorem pad_real {x : Fin 96 → EReal} (hx : ∀ d, ∃ r : ℝ, x d = r) {y : Fin 96 → EReal} (e : ∀ d, y d = x d) (d : Fin 128) :
    (if h : d.val < 96 then x ⟨d.val, h⟩ else 0) = if h : d.val < 96 then ((y ⟨d.val, h⟩).toReal : EReal) else 0 := by
  rw [funext e]
  exact dif_coe hx d

theorem arr_k (hk : Real' (argK m c)) (b : Fin 4) (h : Fin 8) (d : Fin 128) (l : Fin 4096) :
    V m c main_v13 (ix3 b l ⟨128 * h.val + d.val, by omega⟩)
      = if hd : d.val < 96 then (((keyAt (argK m c) (argKC m c) b h ⟨256 + l.val, by omega⟩ ⟨d.val, hd⟩).toReal : ℝ) : EReal) else 0 :=
  (V_k_at m c b l _).trans ((prepK_apply (argK m c) b h d l).trans
    (pad_real (x := fun d => argK m c (ix4 b l h d)) (fun d => hk _)
      (y := fun d => keyAt (argK m c) (argKC m c) b h ⟨256 + l.val, by omega⟩ d) (fun d => keyAt_l _ _ b h l d) d))

theorem arr_kc (hc : Real' (argKC m c)) (b : Fin 4) (h : Fin 8) (d : Fin 128) (l : Fin 256) :
    V m c main_v20 (ix3 b l ⟨128 * h.val + d.val, by omega⟩)
      = if hd : d.val < 96 then (((keyAt (argK m c) (argKC m c) b h ⟨l.val, by omega⟩ ⟨d.val, hd⟩).toReal : ℝ) : EReal) else 0 :=
  (V_kc_at m c b l _).trans ((prepKC_apply (argKC m c) b h d l).trans
    (pad_real (x := fun d => argKC m c (ix4 b l h d)) (fun d => hc _)
      (y := fun d => keyAt (argK m c) (argKC m c) b h ⟨l.val, by omega⟩ d) (fun d => keyAt_c _ _ b h l d) d))

theorem arr_v (b : Fin 4) (h : Fin 8) (d : Fin 64) (l : Fin 4096) :
    V m c main_v16 (ix3 b ⟨64 * h.val + d.val, by omega⟩ l) = valAt (argV m c) (argVC m c) b h ⟨256 + l.val, by omega⟩ d :=
  (V_v_at m c b _ l).trans ((prepV_apply (argV m c) b h d l).trans (valAt_l (argV m c) (argVC m c) b h l d).symm)

theorem arr_vc (b : Fin 4) (h : Fin 8) (d : Fin 64) (l : Fin 256) :
    V m c main_v23 (ix3 b ⟨64 * h.val + d.val, by omega⟩ l) = valAt (argV m c) (argVC m c) b h ⟨l.val, by omega⟩ d :=
  (V_vc_at m c b _ l).trans ((prepVC_apply (argVC m c) b h d l).trans (valAt_c (argV m c) (argVC m c) b h l d).symm)

theorem e₀ : ∀ t : Fin cfg0.N, win0_0.index t = ![(grid0.coords t 0).val, (grid0.coords t 1).val, (grid0.coords t 2).val] :=
  (by decide +kernel : ∀ t : Fin grid0.N, _)
theorem e₁ : ∀ t : Fin cfg0.N, win0_1.index t = ![(grid0.coords t 0).val, 0, (grid0.coords t 1).val] :=
  (by decide +kernel : ∀ t : Fin grid0.N, _)
theorem e₂ : ∀ t : Fin cfg0.N, win0_2.index t = ![(grid0.coords t 0).val, (grid0.coords t 1).val, 0] :=
  (by decide +kernel : ∀ t : Fin grid0.N, _)
theorem e₃ : ∀ t : Fin cfg0.N, win0_3.index t = ![(grid0.coords t 0).val, 0, (grid0.coords t 1).val] :=
  (by decide +kernel : ∀ t : Fin grid0.N, _)
theorem e₄ : ∀ t : Fin cfg0.N, win0_4.index t = ![(grid0.coords t 0).val, (grid0.coords t 1).val, 0] :=
  (by decide +kernel : ∀ t : Fin grid0.N, _)
theorem e₅ : ∀ t : Fin cfg0.N, win0_5.index t = ![(grid0.coords t 0).val, (grid0.coords t 1).val, (grid0.coords t 2).val] :=
  (by decide +kernel : ∀ t : Fin grid0.N, _)

/-- A point's batch. -/
def cB (t : Fin cfg0.N) : Fin 4 := ⟨(grid0.coords t 0).val, (grid0.coords t 0).isLt⟩

theorem at0 (t : Fin cfg0.N) (e : Fin 256) (l e' : Fin 1024) (l' : Fin 4096) (he : e'.val = 256 * (grid0.coords t 1).val + e.val)
    (hl : l'.val = 1024 * (grid0.coords t 2).val + l.val) : (win0_0.blk t).view.emb (ix3 0 e l) = ix3 (cB t) e' l' := by
  blk_ext [e₀, cB]
theorem at1 (t : Fin cfg0.N) (l : Fin 4096) (e : Fin 256) (e' : Fin 1024) (he : e'.val = 256 * (grid0.coords t 1).val + e.val) :
    (win0_1.blk t).view.emb (ix3 0 l e) = ix3 (cB t) l e' := by
  blk_ext [e₁, cB]
theorem at2 (t : Fin cfg0.N) (e : Fin 128) (l : Fin 4096) (e' : Fin 512) (he : e'.val = 128 * (grid0.coords t 1).val + e.val) :
    (win0_2.blk t).view.emb (ix3 0 e l) = ix3 (cB t) e' l := by
  blk_ext [e₂, cB]
theorem at3 (t : Fin cfg0.N) (l e : Fin 256) (e' : Fin 1024) (he : e'.val = 256 * (grid0.coords t 1).val + e.val) :
    (win0_3.blk t).view.emb (ix3 0 l e) = ix3 (cB t) l e' := by
  blk_ext [e₃, cB]
theorem at4 (t : Fin cfg0.N) (e : Fin 128) (l : Fin 256) (e' : Fin 512) (he : e'.val = 128 * (grid0.coords t 1).val + e.val) :
    (win0_4.blk t).view.emb (ix3 0 e l) = ix3 (cB t) e' l := by
  blk_ext [e₄, cB]
theorem at5 (t : Fin cfg0.N) (e : Fin 128) (l : Fin 1024) (e' : Fin 512) (l' : Fin 4096)
    (he : e'.val = 128 * (grid0.coords t 1).val + e.val) (hl : l'.val = 1024 * (grid0.coords t 2).val + l.val) :
    (win0_5.blk t).view.emb (ix3 0 e l) = ix3 (cB t) e' l' := by
  blk_ext [e₅, cB]

/-- The streams of blocks that hold the arguments' entries leave the function's block. -/
theorem blk_eq (x0 : Vec Ideal S1x256x1024 .bf16) (x1 : Vec Ideal S1x4096x256 .bf16) (x2 : Vec Ideal S1x128x4096 .bf16)
    (x3 : Vec Ideal S1x256x256 .bf16) (x4 : Vec Ideal S1x128x256 .bf16) (Q K : Vec Ideal S4x4096x8x96 .f32)
    (W : Vec Ideal S4x4096x8x64 .f32) (KC : Vec Ideal S4x256x8x96 .f32) (WC : Vec Ideal S4x256x8x64 .f32) (β π : Fin 4)
    (r : Fin 128) (q : Fin 1024) (r' : Fin 512) (q' : Fin 4096) (hr : r'.val = 128 * π.val + r.val)
    (h0 : ∀ (H : Fin 8) (e : Fin 256) (d : Fin 128), 128 * H.val + d.val = 256 * π.val + e.val → x0 (ix3 0 e q)
      = scaled (if hd : d.val < 96 then (((Q (ix4 β q' H ⟨d.val, hd⟩) : EReal).toReal : ℝ) : EReal) else 0))
    (h1 : ∀ (H : Fin 8) (e : Fin 256) (d : Fin 128) (l : Fin 4096), 128 * H.val + d.val = 256 * π.val + e.val → x1 (ix3 0 l e)
      = if hd : d.val < 96 then (((keyAt K KC β H ⟨256 + l.val, by omega⟩ ⟨d.val, hd⟩).toReal : ℝ) : EReal) else 0)
    (h2 : ∀ (H : Fin 8) (e : Fin 128) (d : Fin 64) (l : Fin 4096), 64 * H.val + d.val = 128 * π.val + e.val → x2 (ix3 0 e l)
      = valAt W WC β H ⟨256 + l.val, by omega⟩ d)
    (h3 : ∀ (H : Fin 8) (e : Fin 256) (d : Fin 128) (l : Fin 256), 128 * H.val + d.val = 256 * π.val + e.val → x3 (ix3 0 l e)
      = if hd : d.val < 96 then (((keyAt K KC β H ⟨l.val, by omega⟩ ⟨d.val, hd⟩).toReal : ℝ) : EReal) else 0)
    (h4 : ∀ (H : Fin 8) (e : Fin 128) (d : Fin 64) (l : Fin 256), 64 * H.val + d.val = 128 * π.val + e.val → x4 (ix3 0 e l)
      = valAt W WC β H ⟨l.val, by omega⟩ d) :
    blk x0 x1 x2 x3 x4 (ix3 0 r q) = G Q K W KC WC (ix3 β r' q') := by
  obtain ⟨h, hh⟩ : ∃ h : Fin 8, h.val = r.val / 64 := ⟨⟨r.val / 64, by omega⟩, rfl⟩
  obtain ⟨b, hb⟩ : ∃ b : Fin 8, b.val = q.val / 256 := ⟨⟨q.val / 256, by omega⟩, rfl⟩
  obtain ⟨d, hd⟩ : ∃ d : Fin 64, d.val = r.val % 64 := ⟨⟨r.val % 64, by omega⟩, rfl⟩
  obtain ⟨f, hf⟩ : ∃ f : Fin 256, f.val = q.val % 256 := ⟨⟨q.val % 256, by omega⟩, rfl⟩
  obtain ⟨H, hH⟩ : ∃ H : Fin 8, H.val = r'.val / 64 := ⟨⟨r'.val / 64, by omega⟩, rfl⟩
  have eL : blk x0 x1 x2 x3 x4 (ix3 0 r q) = stream x0 x1 x2 x3 x4 h.val b.val (ix3 0 d f) := by
    rw [hh, hb, show d = ⟨r.val % 64, Nat.mod_lt _ (by decide)⟩ from Fin.ext hd, show f = ⟨q.val % 256, Nat.mod_lt _ (by decide)⟩ from Fin.ext hf]
    rfl
  have eR : G Q K W KC WC (ix3 β r' q') = ∑ j, valAt W WC β H j d
      * ((Real.exp (score Q K KC β H q' j) / ∑ i, Real.exp (score Q K KC β H q' i) : ℝ) : EReal) := by
    rw [show d = ⟨r'.val % 64, Nat.mod_lt _ (by decide)⟩ from Fin.ext (by simp only [hd]; omega),
      show H = ⟨r'.val / 64, Nat.div_lt_of_lt_mul r'.isLt⟩ from Fin.ext hH]
    rfl
  have eq (d : Fin 128) := h0 H ⟨128 * (h.val % 2) + d.val, by omega⟩ d (by simp only []; omega)
  have qq : (⟨256 * (b.val % 4) + f.val, by omega⟩ : Fin 1024) = q := Fin.ext (by simp only []; omega)
  rw [eL, eR]
  refine stream_apply x0 x1 x2 x3 x4 h b f d (score Q K KC β H q') (fun j => valAt W WC β H j d)
    (tile_score x0 x1 x3 h b f (score Q K KC β H q') (fun l => ?_) (fun l => ?_))
    (tile_value x2 x4 h d (fun j => valAt W WC β H j d) (fun l => ?_) (fun l => ?_))
  · rw [qq]
    exact score_pad _ _ (fun d => (keyAt K KC β H ⟨l.val, by omega⟩ d).toReal) (fun d => (Q (ix4 β q' H d) : EReal).toReal)
      (fun d => h3 H _ d l (by simp only []; omega)) eq
  · rw [qq]
    exact score_pad _ _ (fun d => (keyAt K KC β H ⟨256 + l.val, by omega⟩ d).toReal) (fun d => (Q (ix4 β q' H d) : EReal).toReal)
      (fun d => h1 H _ d l (by simp only []; omega)) eq
  · exact h4 H _ d l (by simp only []; omega)
  · exact h2 H _ d l (by simp only []; omega)

theorem read_0 (A : Vec Ideal S4x1024x4096 .bf16) (t : Fin cfg0.N) (e : Fin 256) (l e' : Fin 1024) (l' : Fin 4096)
    (he : e'.val = 256 * (grid0.coords t 1).val + e.val)
    (hl : l'.val = 1024 * (grid0.coords t 2).val + l.val) :
    (win0_0.blk t).view.read (Elt Ideal) A (ix3 0 e l) = A (ix3 (cB t) e' l') := congrArg A (at0 t e l e' l' he hl)
theorem iblk_0 (t : Fin cfg0.N) (e : Fin 256) (l e' : Fin 1024) (l' : Fin 4096)
    (he : e'.val = 256 * (grid0.coords t 1).val + e.val)
    (hl : l'.val = 1024 * (grid0.coords t 2).val + l.val) :
    iblk m c 0 t (ix3 0 e l) = V m c main_v9 (ix3 (cB t) e' l') := read_0 (V m c main_v9) t e l e' l' he hl

theorem read_1 (A : Vec Ideal S4x4096x1024 .bf16) (t : Fin cfg0.N) (l : Fin 4096) (e : Fin 256) (e' : Fin 1024)
    (he : e'.val = 256 * (grid0.coords t 1).val + e.val) :
    (win0_1.blk t).view.read (Elt Ideal) A (ix3 0 l e) = A (ix3 (cB t) l e') := congrArg A (at1 t l e e' he)
theorem iblk_1 (t : Fin cfg0.N) (l : Fin 4096) (e : Fin 256) (e' : Fin 1024)
    (he : e'.val = 256 * (grid0.coords t 1).val + e.val) :
    iblk m c 1 t (ix3 0 l e) = V m c main_v13 (ix3 (cB t) l e') := read_1 (V m c main_v13) t l e e' he

theorem read_2 (A : Vec Ideal S4x512x4096 .bf16) (t : Fin cfg0.N) (e : Fin 128) (l : Fin 4096) (e' : Fin 512)
    (he : e'.val = 128 * (grid0.coords t 1).val + e.val) :
    (win0_2.blk t).view.read (Elt Ideal) A (ix3 0 e l) = A (ix3 (cB t) e' l) := congrArg A (at2 t e l e' he)
theorem iblk_2 (t : Fin cfg0.N) (e : Fin 128) (l : Fin 4096) (e' : Fin 512)
    (he : e'.val = 128 * (grid0.coords t 1).val + e.val) :
    iblk m c 2 t (ix3 0 e l) = V m c main_v16 (ix3 (cB t) e' l) := read_2 (V m c main_v16) t e l e' he

theorem read_3 (A : Vec Ideal S4x256x1024 .bf16) (t : Fin cfg0.N) (l e : Fin 256) (e' : Fin 1024)
    (he : e'.val = 256 * (grid0.coords t 1).val + e.val) :
    (win0_3.blk t).view.read (Elt Ideal) A (ix3 0 l e) = A (ix3 (cB t) l e') := congrArg A (at3 t l e e' he)
theorem iblk_3 (t : Fin cfg0.N) (l e : Fin 256) (e' : Fin 1024)
    (he : e'.val = 256 * (grid0.coords t 1).val + e.val) :
    iblk m c 3 t (ix3 0 l e) = V m c main_v20 (ix3 (cB t) l e') := read_3 (V m c main_v20) t l e e' he

theorem read_4 (A : Vec Ideal S4x512x256 .bf16) (t : Fin cfg0.N) (e : Fin 128) (l : Fin 256) (e' : Fin 512)
    (he : e'.val = 128 * (grid0.coords t 1).val + e.val) :
    (win0_4.blk t).view.read (Elt Ideal) A (ix3 0 e l) = A (ix3 (cB t) e' l) := congrArg A (at4 t e l e' he)
theorem iblk_4 (t : Fin cfg0.N) (e : Fin 128) (l : Fin 256) (e' : Fin 512)
    (he : e'.val = 128 * (grid0.coords t 1).val + e.val) :
    iblk m c 4 t (ix3 0 e l) = V m c main_v23 (ix3 (cB t) e' l) := read_4 (V m c main_v23) t e l e' he

/-- The body's result at a point is the function's block there. -/
theorem block_eq (hq : Real' (argQ m c)) (hk : Real' (argK m c)) (hc : Real' (argKC m c)) (t : Fin cfg0.N) (r : Fin 128) (q : Fin 1024)
    (r' : Fin 512) (q' : Fin 4096) (hr : r'.val = 128 * (grid0.coords t 1).val + r.val)
    (hl : q'.val = 1024 * (grid0.coords t 2).val + q.val) :
    blk (iblk m c 0 t) (iblk m c 1 t) (iblk m c 2 t) (iblk m c 3 t) (iblk m c 4 t) (ix3 0 r q) = GM m c (ix3 (cB t) r' q') := by
  refine blk_eq _ _ _ _ _ (argQ m c) (argK m c) (argV m c) (argKC m c) (argVC m c) (cB t)
    ⟨(grid0.coords t 1).val, (grid0.coords t 1).isLt⟩ r q r' q' hr
    (fun H e d hd => (iblk_0 m c t e q ⟨128 * H.val + d.val, by omega⟩ q' hd hl).trans (arr_q m c hq (cB t) H d q'))
    (fun H e d l hd => (iblk_1 m c t l e ⟨128 * H.val + d.val, by omega⟩ hd).trans (arr_k m c hk (cB t) H d l))
    (fun H e d l hd => (iblk_2 m c t e l ⟨64 * H.val + d.val, by omega⟩ hd).trans (arr_v m c (cB t) H d l))
    (fun H e d l hd => (iblk_3 m c t l e ⟨128 * H.val + d.val, by omega⟩ hd).trans (arr_kc m c hc (cB t) H d l))
    (fun H e d l hd => (iblk_4 m c t e l ⟨64 * H.val + d.val, by omega⟩ hd).trans (arr_vc m c (cB t) H d l))

theorem final_o (hq : Real' (argQ m c)) (hk : Real' (argK m c)) (hc : Real' (argKC m c)) :
    (dats m 0 c).arrAt 5 cfg0.N = GM m c := by
  refine (dats m 0 c).arrAt_eq_of_covers 5 _ (by decide +kernel) fun t hf y => ?_
  blk_simp
  rw [after0_5]
  refine (out_apply _ _ _ _ _ y).trans ?_
  have l₁ : (y 1).val < 128 := (y 1).isLt
  have l₂ : (y 2).val < 1024 := (y 2).isLt
  have g₁ : (grid0.coords t 1).val < 4 := (grid0.coords t 1).isLt
  have g₂ : (grid0.coords t 2).val < 4 := (grid0.coords t 2).isLt
  have e : y = ix3 0 ⟨(y 1).val, l₁⟩ ⟨(y 2).val, l₂⟩ := by
    funext a
    match a with
    | ⟨0, _⟩ => exact Subsingleton.elim (α := Fin 1) _ _
    | ⟨1, _⟩ => rfl
    | ⟨2, _⟩ => rfl
  refine (congrArg (blk (iblk m c 0 t) (iblk m c 1 t) (iblk m c 2 t) (iblk m c 3 t) (iblk m c 4 t)) e).trans ?_
  refine (block_eq m c hq hk hc t ⟨(y 1).val, l₁⟩ ⟨(y 2).val, l₂⟩ ⟨128 * (grid0.coords t 1).val + (y 1).val, by omega⟩
    ⟨1024 * (grid0.coords t 2).val + (y 2).val, by omega⟩ rfl rfl).trans (congrArg (GM m c) ?_)
  exact ((congrArg (win0_5.blk t).view.emb e).trans (at5 t ⟨(y 1).val, l₁⟩ ⟨(y 2).val, l₂⟩ _ _ rfl rfl)).symm

end Cert.KernelIdeal.Hand

end
-- ==== Proof.AttnRef.lean ====
module

public import proofs.«01_k».proof.Proof.Gen.ReferenceIdeal.Read
public import proofs.«01_k».proof.Proof.AttnSpec

/-! The reference's attention is the same function of its arguments, where the scores are real. -/

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem
open Cert.Attention

variable (q k : Vec Ideal S4x4096x8x96 .f32) (v : Vec Ideal S4x4096x8x64 .f32) (kc : Vec Ideal S4x256x8x96 .f32)
  (vc : Vec Ideal S4x256x8x64 .f32)

theorem keys_apply (b : Fin 4) (j : Fin 4352) (h : Fin 8) (d : Fin 96) :
    val_main_v0 (F := Ideal) k kc (ix4 b j h d) = keyAt k kc b h j d := by
  pointwise [val_main_v0]
  rfl

theorem values_apply (b : Fin 4) (j : Fin 4352) (h : Fin 8) (d : Fin 64) :
    val_main_v1 (F := Ideal) v vc (ix4 b j h d) = valAt v vc b h j d := by
  pointwise [val_main_v1]
  rfl

theorem scaled_apply (b : Fin 4) (h : Fin 8) (l : Fin 4096) (j : Fin 4352) : val_main_v4 (F := Ideal) q k kc (ix4 b h l j)
    = (∑ d : Fin 96, q (ix4 b l h d) * keyAt k kc b h j d) * Ideal.ofBits .f32 0x3DD105EC#32 := by
  pointwise [val_main_v4, val_main_v3, val_main_v2, val_main_cst]
  simp only [keys_apply]

theorem score_apply (hq : Real' q) (hk : Real' k) (hc : Real' kc) (b : Fin 4) (h : Fin 8) (l : Fin 4096) (j : Fin 4352) :
    val_main_v4 (F := Ideal) q k kc (ix4 b h l j) = (score q k kc b h l j : EReal) := by
  refine (scaled_apply q k kc b h l j).trans ?_
  rw [scale_eq]
  simp only [score, EReal.coe_mul, SoftmaxTiles.coe_sum, ← hq.coe, ← keyAt_coe hk hc]

/-- The reduction over the keys from −∞, as the largest entry. -/
theorem rowMax_apply (x : FVec Ideal S4x8x4096x4352 .f32) (b : Fin 4) (h : Fin 8) (l : Fin 4096) :
    Host.reduce FloatOps.maximumf x (val_main_cst_0 (F := Ideal)) reducesTo_S4x8x4096x4352_S4x8x4096_d3 h_S_ (ix3 b h l)
      = Finset.univ.fold max (Ideal.ofBits .f32 0xFF800000#32) (fun j => x (ix4 b h l j)) := by
  pointwise [val_main_cst_0]

theorem low_apply (b : Fin 4) (h : Fin 8) (l : Fin 4096) :
    val_main_v6 (F := Ideal) (ix3 b h l) = Ideal.ofBits .f32 0xFF800000#32 := by
  pointwise [val_main_v6, val_main_cst_1]

theorem max_real (hq : Real' q) (hk : Real' k) (hc : Real' kc) (b : Fin 4) (h : Fin 8) (l : Fin 4096) :
    ∃ r : ℝ, val_main_v7 (F := Ideal) q k kc (ix3 b h l) = r := by
  have e : Ideal.ofBits .f32 0xFF800000#32 = ⊥ := by simp [Ideal.ofBits, Ideal.ieee]
  obtain ⟨r, hr⟩ := SoftmaxTiles.fold_max_real (fun j => val_main_v4 (F := Ideal) q k kc (ix4 b h l j))
    fun j => ⟨_, score_apply q k kc hq hk hc b h l j⟩
  have h5 : val_main_v5 (F := Ideal) q k kc (ix3 b h l) = (r : EReal) :=
    (rowMax_apply _ b h l).trans ((congrArg (fun z => Finset.univ.fold max z _) e).trans hr)
  refine ⟨r, (val_main_v7_apply q k kc (ix3 b h l)).trans ?_⟩
  rw [h5, low_apply, e]
  exact max_bot_left _

theorem weight_apply (hq : Real' q) (hk : Real' k) (hc : Real' kc) (b : Fin 4) (h : Fin 8) (l : Fin 4096) (j : Fin 4352) :
    val_main_v15 (F := Ideal) q k kc (ix4 b h l j) = (weight q k kc b h l j : EReal) := by
  obtain ⟨M, hM⟩ := max_real q k kc hq hk hc b h l
  pointwise [val_main_v15, val_main_v14, val_main_v13, val_main_v12, val_main_v11, val_main_v10, val_main_v9, val_main_v8, val_main_cst_2]
  simp only [score_apply q k kc hq hk hc, hM]
  exact SoftmaxTiles.weight_eq (score q k kc b h l) M j

theorem ref_eq (hq : Real' q) (hk : Real' k) (hc : Real' kc) :
    val_main_v20 (F := Ideal) q k v kc vc = G q k v kc vc := by
  funext y
  idx_vars y
  pointwise [val_main_v20, val_main_v19, val_main_v18, val_main_v17, val_main_v16]
  simp only [values_apply, weight_apply q k kc hq hk hc]
  rfl

end Cert.ReferenceIdeal.Hand

end
-- ==== Proof.AttnClaims.lean ====
module

public import proofs.«01_k».proof.Defs
public import proofs.«01_k».proof.Proof.Gen.Pre_finite_scores
public import proofs.«01_k».proof.Proof.AttnArr
public import proofs.«01_k».proof.Proof.AttnRef
public import Idealize.ShloMosaic.Lib.ReduceAll

/-! The attention call's claims: its result is the reference's wherever the queries and keys are finite. -/

@[expose] public section

noncomputable section

namespace Cert.AttnClaims

open Idealize.ShloMosaic Idealize.ShloMosaic.TcCoe Idealize.SL.Sem Cert.Attention

theorem and_one : ∀ x y : BitVec 1, IntOp.andi x y = 1#1 → x = 1#1 ∧ y = 1#1 := by decide

/-- An entry whose magnitude stands below the word of infinity is real. -/
theorem real_of_lt (x : EReal) (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  induction x with
  | bot => simp [Ideal.cmp] at h
  | coe r => exact ⟨r, rfl⟩
  | top => simp [Ideal.cmp] at h

theorem real_of_all {s : Shape} {axes : List (Fin s.rank)} (x : Vec Ideal s .f32) (hb : Pre_finite_scores.S_.BroadcastsInDim s ![])
    (hr : s.ReducesTo axes Pre_finite_scores.S_) (hs : 0 < Pre_finite_scores.S_.numel) (j : Pre_finite_scores.S_.Idx)
    (h : Host.reduce IntOp.andi (cmpf .olt (Host.absf (F := Ideal) (φ := .f32) x) (broadcastInDim s ![] hb (constant (F := Ideal) Pre_finite_scores.S_ .f32 0x7F800000#32)))
      (constantI Pre_finite_scores.S_ 1 1#1) hr hs j = 1#1) : Real' x := by
  have : Subsingleton Pre_finite_scores.S_.Idx := ⟨fun a b => funext fun k => k.elim0⟩
  exact fun i => real_of_lt (x i) (Host.reduce_andi_all _ _ hr hs j h i)

theorem real_args (m : (ℓ : Loc Cert.KernelIdeal.nD Cert.KernelIdeal.τ Cert.KernelIdeal.sig) → Buf (Elt Ideal) ℓ)
    (h : Cert.Pre_KernelIdeal_finite_scores m) (c : Dev Cert.KernelIdeal.nD) :
    Real' (KernelIdeal.Hand.argQ m c) ∧ Real' (KernelIdeal.Hand.argK m c) ∧ Real' (KernelIdeal.Hand.argKC m c) := by
  have h := congrFun (h c) (fun k : Fin 0 => k.elim0)
  dsimp only [Cert.Pre_finite_scores.fn] at h
  obtain ⟨h, h3⟩ := and_one _ _ h
  obtain ⟨h1, h2⟩ := and_one _ _ h
  exact ⟨real_of_all _ _ _ _ _ h1, real_of_all _ _ _ _ _ h2, real_of_all _ _ _ _ _ h3⟩

theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result and the reference's are the same function of the arguments. -/
theorem algebraic : Cert.algebraic_KernelIdeal_ReferenceIdeal_pre_finite_scores := by
  intro m ρ m' ρ' hpre hagree
  refine ⟨fun c => Cert.KernelIdeal.Hand.GM m c, ?_, ?_⟩
  · exact (θ_run Cert.KernelIdeal.defs _ _).mono
      (fun r h c => ⟨(h c).1.trans (Cert.KernelIdeal.Hand.final_o m c (real_args m hpre c).1 (real_args m hpre c).2.1 (real_args m hpre c).2.2), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4⟩ := hagree c
    obtain ⟨hq, hk, hc⟩ := real_args m hpre c
    rw [Cert.ReferenceIdeal.Read.val_main_v20_eq, h0, h1, h2, h3, h4]
    exact Cert.ReferenceIdeal.Hand.ref_eq _ _ _ _ _ hq hk hc

end Cert.AttnClaims

end
-- ==== Proof.RowNorm.lean ====
/-
  Rows of a matrix as extended reals: the layer normalization of one row, as both the kernels and the references
  compute it.
-/
module

public import Idealize.ShloMosaic.Lib.Pointwise

@[expose] public section

noncomputable section

namespace Cert.Rows

open Idealize.ShloMosaic

/-- The mean of a row of 1024 numbers. -/
def mean (f : Fin 1024 → EReal) : EReal :=
  Ideal.div (∑ k, f k) (Ideal.ofBits .f32 0x44800000#32)

/-- The layer normalization of the row `f` at place `c`, with gain `g` and offset `b`. -/
def norm (f g b : Fin 1024 → EReal) (c : Fin 1024) : EReal :=
  (f c - mean f) * Ideal.rsqrt (mean (fun k => (f k - mean f) * (f k - mean f)) + Ideal.ofBits .f32 0x3727C5AC#32) * g c + b c

/-- The activation of the gate: a number times its logistic. -/
def silu (x : EReal) : EReal := x * Ideal.div 1 (1 + Ideal.exp (-x))

end Cert.Rows

end
-- ==== Proof.Ffn.lean ====
module

public import proofs.«01_k».proof.Proof.Gen.Kernel2Ideal.Value
public import proofs.«01_k».proof.Proof.RowNorm
public import Idealize.ShloMosaic.Lib.Pointwise
public import Idealize.ShloMosaic.Lib.Pipeline.ValueKit

@[expose] public section

set_option maxRecDepth 16384

noncomputable section

namespace Cert.Kernel2Ideal.Hand

open Cert.Kernel2Ideal Cert.Kernel2Ideal.Gen Idealize.ShloMosaic Idealize.ShloMosaic.TcCoe Idealize.SL.Sem

section Tile
variable {F : FTy → Type} [FloatOps F]

/-- What the body computes of one group of 256 rows. -/
def tile (sh s g : Vec F S1x1x1024 .f32) (x : Vec F S1x256x1024 .f32) (wa wb : Vec F S1024x2816 .bf16)
    (wd : Vec F S2816x1024 .bf16) (gain off : Vec F S1x1024 .f32) : FVec F S1x256x1024 .f32 :=
  k0_pay1 (k0_pay34 (k0_pay4 g) (k0_pay26 (k0_pay2 sh) (k0_pay23 x) (k0_pay24 (k0_pay3 s)) wa)
    (k0_pay27 (k0_pay2 sh) (k0_pay23 x) (k0_pay24 (k0_pay3 s)) wb) wd x) gain off

/-- The body's result is that of its four groups of rows. -/
theorem out_eq (x0 : Vec F S1x1024x1024 .f32) (x1 : Vec F S1x6x1024 .f32) (x2 : Vec F S1024x5632 .bf16)
    (x3 : Vec F S2816x1024 .bf16) (x4 : Vec F S1x1024 .f32) (x5 : Vec F S1x1024 .f32) :
    out0_6 x0 x1 x2 x3 x4 x5 = View.canon
      [⟨r0_10, tile (View.ld x1 r0_0) (View.ld x1 r0_1) (View.ld x1 r0_2) (View.ld x0 r0_10) (View.ld x2 r0_4) (View.ld x2 r0_5) (View.ld x3 r0_7) (View.ld x4 r0_8) (View.ld x5 r0_8)⟩,
       ⟨r0_9, tile (View.ld x1 r0_0) (View.ld x1 r0_1) (View.ld x1 r0_2) (View.ld x0 r0_9) (View.ld x2 r0_4) (View.ld x2 r0_5) (View.ld x3 r0_7) (View.ld x4 r0_8) (View.ld x5 r0_8)⟩,
       ⟨r0_6, tile (View.ld x1 r0_0) (View.ld x1 r0_1) (View.ld x1 r0_2) (View.ld x0 r0_6) (View.ld x2 r0_4) (View.ld x2 r0_5) (View.ld x3 r0_7) (View.ld x4 r0_8) (View.ld x5 r0_8)⟩,
       ⟨r0_3, tile (View.ld x1 r0_0) (View.ld x1 r0_1) (View.ld x1 r0_2) (View.ld x0 r0_3) (View.ld x2 r0_4) (View.ld x2 r0_5) (View.ld x3 r0_7) (View.ld x4 r0_8) (View.ld x5 r0_8)⟩] := rfl

end Tile

/-- The row before the normalization: the residual scaled, plus the gate times the feed-forward of the modulated row. -/
def row (sh s g x : Fin 1024 → EReal) (wa wb : Fin 1024 → Fin 2816 → EReal) (wd : Fin 2816 → Fin 1024 → EReal)
    (c : Fin 1024) : EReal :=
  Ideal.ofBits .f32 0x3F9837F0#32 * x c + g c * ∑ k, Rows.silu (∑ i, (x i * (1 + s i) + sh i) * wa i k)
    * (∑ i, (x i * (1 + s i) + sh i) * wb i k) * wd k c

theorem pay1_apply (v : FVec Ideal S256x1024 .f32) (g b : Vec Ideal S1x1024 .f32) (r : Fin 256) (c : Fin 1024) :
    k0_pay1 v g b (ix3 0 r c) = Rows.norm (fun k => v (ix2 r k)) (fun k => g (ix2 0 k)) (fun k => b (ix2 0 k)) c := by
  pointwise [k0_pay1]
  rfl

theorem pay26_apply (sh s : Vec Ideal S1x1x1024 .f32) (x : Vec Ideal S1x256x1024 .f32) (wa : Vec Ideal S1024x2816 .bf16)
    (r : Fin 256) (c : Fin 2816) :
    k0_pay26 (k0_pay2 sh) (k0_pay23 x) (k0_pay24 (k0_pay3 s)) wa (ix2 r c)
      = ∑ i : Fin 1024, (x (ix3 0 r i) * (1 + s (ix3 0 0 i)) + sh (ix3 0 0 i)) * wa (ix2 i c) := by
  pointwise [k0_pay26, k0_pay25, k0_pay2, k0_pay23, k0_pay24, k0_pay3]

theorem pay34_apply (g : Vec Ideal S1x1x1024 .f32) (a b : FVec Ideal S256x2816 .f32) (wd : Vec Ideal S2816x1024 .bf16)
    (x : Vec Ideal S1x256x1024 .f32) (r : Fin 256) (c : Fin 1024) :
    k0_pay34 (k0_pay4 g) a b wd x (ix2 r c) = Ideal.ofBits .f32 0x3F9837F0#32 * x (ix3 0 r c)
      + g (ix3 0 0 c) * ∑ k : Fin 2816, Rows.silu (a (ix2 r k)) * b (ix2 r k) * wd (ix2 k c) := by
  pointwise [k0_pay34, k0_pay4]
  simp only [Rows.silu, zero_sub]

theorem tile_apply (sh s g : Vec Ideal S1x1x1024 .f32) (x : Vec Ideal S1x256x1024 .f32) (wa wb : Vec Ideal S1024x2816 .bf16)
    (wd : Vec Ideal S2816x1024 .bf16) (gain off : Vec Ideal S1x1024 .f32) (r : Fin 256) (c : Fin 1024) :
    tile sh s g x wa wb wd gain off (ix3 0 r c)
      = Rows.norm (row (fun i => sh (ix3 0 0 i)) (fun i => s (ix3 0 0 i)) (fun i => g (ix3 0 0 i)) (fun i => x (ix3 0 r i))
          (fun i k => wa (ix2 i k)) (fun i k => wb (ix2 i k)) (fun k i => wd (ix2 k i)))
        (fun k => gain (ix2 0 k)) (fun k => off (ix2 0 k)) c := by
  unfold tile
  rw [pay1_apply]
  congr 1
  funext k
  rw [pay34_apply]
  unfold row
  congr 2
  refine Finset.sum_congr rfl fun j _ => ?_
  rw [pay26_apply, ← pay26_apply sh s x wb]
  rfl

theorem tile_at (sh s g : Vec Ideal S1x1x1024 .f32) (x : Vec Ideal S1x256x1024 .f32) (wa wb : Vec Ideal S1024x2816 .bf16)
    (wd : Vec Ideal S2816x1024 .bf16) (gain off : Vec Ideal S1x1024 .f32) (j : S1x256x1024.Idx) :
    tile sh s g x wa wb wd gain off j
      = Rows.norm (row (fun i => sh (ix3 0 0 i)) (fun i => s (ix3 0 0 i)) (fun i => g (ix3 0 0 i)) (fun i => x (ix3 0 (j 1) i))
          (fun i k => wa (ix2 i k)) (fun i k => wb (ix2 i k)) (fun k i => wd (ix2 k i)))
        (fun k => gain (ix2 0 k)) (fun k => off (ix2 0 k)) (j 2) := by
  have e : j = ix3 0 (j 1) (j 2) := by
    funext a
    match a with
    | ⟨0, _⟩ => exact Subsingleton.elim (α := Fin 1) _ _
    | ⟨1, _⟩ => rfl
    | ⟨2, _⟩ => rfl
  exact (congrArg (tile sh s g x wa wb wd gain off) e).trans (tile_apply sh s g x wa wb wd gain off (j 1) (j 2))

/-- The lower and the upper half of the columns of the joined weight. -/
abbrev lo (k : Fin 2816) : Fin 5632 := ⟨k.val, by omega⟩
abbrev hi (k : Fin 2816) : Fin 5632 := ⟨2816 + k.val, by omega⟩

/-- The body's result at a place of the block. -/
def blk (x0 : Vec Ideal S1x1024x1024 .f32) (x1 : Vec Ideal S1x6x1024 .f32) (x2 : Vec Ideal S1024x5632 .bf16)
    (x3 : Vec Ideal S2816x1024 .bf16) (x4 x5 : Vec Ideal S1x1024 .f32) : Vec Ideal S1x1024x1024 .f32 := fun (y : S1x1024x1024.Idx) =>
  Rows.norm (row (fun i => x1 (ix3 0 3 i)) (fun i => x1 (ix3 0 4 i)) (fun i => x1 (ix3 0 5 i)) (fun i => x0 (ix3 0 (y 1) i))
      (fun i k => x2 (ix2 i (lo k))) (fun i k => x2 (ix2 i (hi k))) (fun k i => x3 (ix2 k i)))
    (fun k => x4 (ix2 0 k)) (fun k => x5 (ix2 0 k)) (y 2)

theorem out_apply (x0 : Vec Ideal S1x1024x1024 .f32) (x1 : Vec Ideal S1x6x1024 .f32) (x2 : Vec Ideal S1024x5632 .bf16)
    (x3 : Vec Ideal S2816x1024 .bf16) (x4 x5 : Vec Ideal S1x1024 .f32) (y : S1x1024x1024.Idx) :
    out0_6 x0 x1 x2 x3 x4 x5 y = blk x0 x1 x2 x3 x4 x5 y := by
  rw [out_eq]
  refine View.canon_apply_of_pieces (Val := Elt Ideal) (blk x0 x1 x2 x3 x4 x5) _ ?_ y (cover0_6 _ _ _ _ y)
  intro p hp x
  simp only [List.mem_cons, List.not_mem_nil, or_false] at hp
  rcases hp with rfl | rfl | rfl | rfl
  all_goals
    refine (tile_at _ _ _ _ _ _ _ _ _ x).trans ?_
    pointwise [blk]
    congr 1
    · congr 1
      funext i
      congr 2
      exact Fin.ext (by rw [Rect.emb_apply]; simp [r0_10, r0_9, r0_6, r0_3])
    · exact Fin.ext (by rw [Rect.emb_apply]; simp [r0_10, r0_9, r0_6, r0_3])

/-- The feed-forward call's result as one function of its arguments. -/
def G (x : Vec Ideal S4x4096x1024 .f32) (ada : Vec Ideal S8x6144 .f32) (wgu : Vec Ideal S1x1024x5632 .f32)
    (wd : Vec Ideal S1x2816x1024 .f32) (g b : Vec Ideal S1x1024 .f32) : Vec Ideal S4x4096x1024 .f32 :=
  fun (y : S4x4096x1024.Idx) =>
  Rows.norm (row (fun i => ada (ix2 ⟨(y 0).val, lt_trans (y 0).isLt (by decide)⟩ ⟨3072 + i.val, by omega⟩))
      (fun i => ada (ix2 ⟨(y 0).val, lt_trans (y 0).isLt (by decide)⟩ ⟨4096 + i.val, by omega⟩))
      (fun i => ada (ix2 ⟨(y 0).val, lt_trans (y 0).isLt (by decide)⟩ ⟨5120 + i.val, by omega⟩))
      (fun i => x (ix3 (y 0) (y 1) i))
      (fun i k => wgu (ix3 0 i (lo k))) (fun i k => wgu (ix3 0 i (hi k))) (fun k i => wd (ix3 0 k i)))
    (fun k => g (ix2 0 k)) (fun k => b (ix2 0 k)) (y 2)

variable (m : (ℓ : Loc nD τ sig) → Buf (Elt Ideal) ℓ)

theorem cast_ada (x : Vec Ideal S8x6144 .f32) (j : Fin 8) (r : Fin 6) (k : Fin 1024) :
    shapeCast S8x6x1024 x shapeCasts_S8x6144_S8x6x1024 (ix3 j r k) = x (ix2 j ⟨r.val * 1024 + k.val, by omega⟩) := by
  pointwise []

theorem cast_gu (x : Vec Ideal S1x1024x5632 .f32) (j : Fin 1024) (k : Fin 5632) :
    shapeCast S1024x5632 x shapeCasts_S1x1024x5632_S1024x5632 (ix2 j k) = x (ix3 0 j k) := by
  pointwise []

theorem cast_down (x : Vec Ideal S1x2816x1024 .f32) (j : Fin 2816) (k : Fin 1024) :
    shapeCast S2816x1024 x shapeCasts_S1x2816x1024_S2816x1024 (ix2 j k) = x (ix3 0 j k) := by
  pointwise []

theorem cast_row (x : Vec Ideal S1x1024 .f32) (k : Fin 1024) :
    shapeCast S1x1024 (shapeCast S1024 x shapeCasts_S1x1024_S1024) shapeCasts_S1024_S1x1024 (ix2 0 k) = x (ix2 0 k) := by
  pointwise []

theorem V_v0 (c : Dev nD) (j : Fin 8) (r : Fin 6) (k : Fin 1024) :
    V m c main_v0 (ix3 j r k) = m ((c : Thread nD τ).loc main_arg1) (ix2 j ⟨r.val * 1024 + k.val, by omega⟩) :=
  cast_ada (m ((c : Thread nD τ).loc main_arg1)) j r k

theorem V_v2 (c : Dev nD) (j : Fin 1024) (k : Fin 5632) :
    V m c main_v2 (ix2 j k) = m ((c : Thread nD τ).loc main_arg2) (ix3 0 j k) :=
  cast_gu (m ((c : Thread nD τ).loc main_arg2)) j k

theorem V_v4 (c : Dev nD) (j : Fin 2816) (k : Fin 1024) :
    V m c main_v4 (ix2 j k) = m ((c : Thread nD τ).loc main_arg3) (ix3 0 j k) :=
  cast_down (m ((c : Thread nD τ).loc main_arg3)) j k

theorem V_v6 (c : Dev nD) (k : Fin 1024) :
    V m c main_v6 (ix2 0 k) = m ((c : Thread nD τ).loc main_arg4) (ix2 0 k) :=
  cast_row (m ((c : Thread nD τ).loc main_arg4)) k

theorem V_v8 (c : Dev nD) (k : Fin 1024) :
    V m c main_v8 (ix2 0 k) = m ((c : Thread nD τ).loc main_arg5) (ix2 0 k) :=
  cast_row (m ((c : Thread nD τ).loc main_arg5)) k

theorem e₀ : ∀ t : Fin cfg0.N, win0_0.index t = ![(grid0.coords t 0).val, (grid0.coords t 1).val, 0] :=
  (by decide +kernel : ∀ t : Fin grid0.N, _)
theorem e₁ : ∀ t : Fin cfg0.N, win0_1.index t = ![(grid0.coords t 0).val, 0, 0] :=
  (by decide +kernel : ∀ t : Fin grid0.N, _)
theorem e₂ : ∀ t : Fin cfg0.N, win0_2.index t = ![0, 0] :=
  (by decide +kernel : ∀ t : Fin grid0.N, _)
theorem e₃ : ∀ t : Fin cfg0.N, win0_3.index t = ![0, 0] :=
  (by decide +kernel : ∀ t : Fin grid0.N, _)
theorem e₄ : ∀ t : Fin cfg0.N, win0_4.index t = ![0, 0] :=
  (by decide +kernel : ∀ t : Fin grid0.N, _)
theorem e₅ : ∀ t : Fin cfg0.N, win0_5.index t = ![0, 0] :=
  (by decide +kernel : ∀ t : Fin grid0.N, _)
theorem e₆ : ∀ t : Fin cfg0.N, win0_6.index t = ![(grid0.coords t 0).val, (grid0.coords t 1).val, 0] :=
  (by decide +kernel : ∀ t : Fin grid0.N, _)

/-- Two such rows agree when what they are made of agrees. -/
theorem norm_row_congr {sh sh' s s' g g' x x' : Fin 1024 → EReal} {wa wa' wb wb' : Fin 1024 → Fin 2816 → EReal}
    {wd wd' : Fin 2816 → Fin 1024 → EReal} {ga ga' be be' : Fin 1024 → EReal} {k k' : Fin 1024}
    (h₁ : ∀ i, sh i = sh' i) (h₂ : ∀ i, s i = s' i) (h₃ : ∀ i, g i = g' i) (h₄ : ∀ i, x i = x' i)
    (h₅ : ∀ i j, wa i j = wa' i j) (h₆ : ∀ i j, wb i j = wb' i j) (h₇ : ∀ i j, wd i j = wd' i j)
    (h₈ : ∀ i, ga i = ga' i) (h₉ : ∀ i, be i = be' i) (hk : k = k') :
    Rows.norm (row sh s g x wa wb wd) ga be k = Rows.norm (row sh' s' g' x' wa' wb' wd') ga' be' k' := by
  rw [funext h₁, funext h₂, funext h₃, funext h₄, funext fun i => funext (h₅ i), funext fun i => funext (h₆ i),
    funext fun i => funext (h₇ i), funext h₈, funext h₉, hk]

/-- That function of the arguments a run starts from. -/
def GM (c : Dev nD) : Vec Ideal S4x4096x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem final_o (c : Dev nD) : (dats m 0 c).arrAt 6 cfg0.N = GM m c := by
  refine (dats m 0 c).arrAt_eq_of_covers 6 _ (by decide +kernel) fun t hf y => ?_
  blk_simp
  rw [after0_6]
  have p₂ (r : Fin 1024) (i : Fin 5632) : (win0_2.blk t).view.emb (ix2 r i) = ix2 r i := by blk_ext [e₂]
  have p₃ (r : Fin 2816) (i : Fin 1024) : (win0_3.blk t).view.emb (ix2 r i) = ix2 r i := by blk_ext [e₃]
  have p₄ (i : Fin 1024) : (win0_4.blk t).view.emb (ix2 0 i) = ix2 0 i := by blk_ext [e₄]
  have p₅ (i : Fin 1024) : (win0_5.blk t).view.emb (ix2 0 i) = ix2 0 i := by blk_ext [e₅]
  refine (out_apply _ _ _ _ _ _ y).trans ?_
  simp only [blk, GM, G]
  have p₁ (r : Fin 6) (i : Fin 1024) : (win0_1.blk t).view.emb (ix3 0 r i)
      = ix3 ⟨((win0_6.blk t).view.emb y 0).val, lt_trans (b := 4) ((win0_6.blk t).view.emb y 0).isLt (by decide)⟩ r i := by
    blk_ext [e₁, e₆]
  refine norm_row_congr (fun i => (congrArg (V m c main_v0) (p₁ 3 i)).trans (V_v0 m c _ 3 i))
    (fun i => (congrArg (V m c main_v0) (p₁ 4 i)).trans (V_v0 m c _ 4 i))
    (fun i => (congrArg (V m c main_v0) (p₁ 5 i)).trans (V_v0 m c _ 5 i))
    (fun i => ?_)
    (fun i j => (congrArg (V m c main_v2) (p₂ i (lo j))).trans (V_v2 m c i (lo j)))
    (fun i j => (congrArg (V m c main_v2) (p₂ i (hi j))).trans (V_v2 m c i (hi j)))
    (fun i j => (congrArg (V m c main_v4) (p₃ i j)).trans (V_v4 m c i j))
    (fun i => (congrArg (V m c main_v6) (p₄ i)).trans (V_v6 m c i))
    (fun i => (congrArg (V m c main_v8) (p₅ i)).trans (V_v8 m c i)) ?_
  · refine (congrFun (V_main_arg0 m c) _).trans (congrArg (m ((c : Thread nD τ).loc main_arg0)) ?_)
    blk_ext [e₀, e₆]
  · exact Fin.ext (by blk_simp [e₆])

end Cert.Kernel2Ideal.Hand

end
-- ==== Proof.FfnRef.lean ====
module

public import proofs.«01_k».proof.Proof.Gen.Reference2Ideal.Read
public import proofs.«01_k».proof.Proof.Ffn
public import proofs.«01_k».proof.Defs
public import proofs.«01_k».proof.Proof.Gen.Kernel2

@[expose] public section

set_option maxRecDepth 16384

noncomputable section

namespace Cert.Reference2Ideal.Hand

open Cert.Reference2Ideal Cert.Reference2Ideal.Gen Cert.Reference2Ideal.Read Idealize.ShloMosaic Idealize.ShloMosaic.TcCoe Idealize.SL.Sem
open Cert.Kernel2Ideal.Hand (row lo hi G)

variable (x0 : Vec Ideal S4x4096x1024 .f32) (x1 : Vec Ideal S8x6144 .f32) (x2 : Vec Ideal S1x1024x5632 .f32)
  (x3 : Vec Ideal S1x2816x1024 .f32) (x4 x5 : Vec Ideal S1x1024 .f32)

/-- The joined product of the modulated row with the two weights. -/
theorem up_apply (b : Fin 4) (l : Fin 4096) (k : Fin 5632) :
    val_main_v18 (F := Ideal) x0 x1 x2 (ix3 b l k)
      = ∑ i, (x0 (ix3 b l i) * (1 + x1 (ix2 ⟨b.val, by omega⟩ ⟨4096 + i.val, by omega⟩)) + x1 (ix2 ⟨b.val, by omega⟩ ⟨3072 + i.val, by omega⟩))
          * x2 (ix3 0 i k) := by
  pointwise [val_main_v18, val_main_v16, val_main_v15, val_main_v14, val_main_v13, val_main_v12, val_main_v11, val_main_v10,
    val_main_cst_0, val_main_v6, val_main_v5, val_main_v1, val_main_v0]

theorem row_apply (b : Fin 4) (l : Fin 4096) (c : Fin 1024) :
    val_main_v26 (F := Ideal) x0 x1 x2 x3 (ix3 b l c)
      = row (fun i => x1 (ix2 ⟨b.val, by omega⟩ ⟨3072 + i.val, by omega⟩)) (fun i => x1 (ix2 ⟨b.val, by omega⟩ ⟨4096 + i.val, by omega⟩))
        (fun i => x1 (ix2 ⟨b.val, by omega⟩ ⟨5120 + i.val, by omega⟩)) (fun i => x0 (ix3 b l i))
        (fun i k => x2 (ix3 0 i (lo k))) (fun i k => x2 (ix3 0 i (hi k))) (fun k i => x3 (ix3 0 k i)) c := by
  pointwise [val_main_v26, val_main_v25, val_main_v24, val_main_v23, val_main_v22, val_main_v21, val_main_call0_v5,
    val_main_call0_v4, val_main_call0_v3, val_main_call0_v2, val_main_call0_v1, val_main_call0_v0, val_main_call0_cst, val_main_call0_cst_0,
    val_main_v20, val_main_v19, val_main_v17, val_main_v9, val_main_v8, val_main_cst, val_main_v7, val_main_v1, val_main_v0]
  simp only [up_apply]
  rfl

theorem norm_apply (b : Fin 4) (l : Fin 4096) (c : Fin 1024) :
    val_main_v50 (F := Ideal) x0 x1 x2 x3 x4 x5 (ix3 b l c)
      = Rows.norm (fun k => val_main_v26 (F := Ideal) x0 x1 x2 x3 (ix3 b l k)) (fun k => x4 (ix2 0 k)) (fun k => x5 (ix2 0 k)) c := by
  pointwise [val_main_v50, val_main_v49, val_main_v48, val_main_v47, val_main_v46, val_main_v45, val_main_v44, val_main_v43,
    val_main_v42, val_main_v41, val_main_v40, val_main_v39, val_main_v38, val_main_v37, val_main_v36, val_main_v35, val_main_v34,
    val_main_v33, val_main_v32, val_main_v31, val_main_v30, val_main_v29, val_main_v28, val_main_v27, val_main_cst_1, val_main_cst_2,
    val_main_cst_3, val_main_cst_4, val_main_cst_5]
  rfl

theorem ref_eq : val_main_v50 (F := Ideal) x0 x1 x2 x3 x4 x5 = G x0 x1 x2 x3 x4 x5 := by
  funext y
  idx_vars y
  rw [norm_apply]
  simp only [row_apply]
  rfl

end Cert.Reference2Ideal.Hand

namespace Cert.FfnClaims

open Idealize.ShloMosaic Idealize.ShloMosaic.TcCoe Idealize.SL.Sem

theorem frame_r : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel's result and the reference's are the same function of the arguments. -/
theorem algebraic : Cert.algebraic_Kernel2Ideal_Reference2Ideal := by
  intro m ρ m' ρ' _ hagree
  refine ⟨fun c => Cert.Kernel2Ideal.Hand.GM m c, ?_, ?_⟩
  · exact (θ_run Cert.Kernel2Ideal.defs _ _).mono (fun r h c => ⟨(h c).1.trans (Cert.Kernel2Ideal.Hand.final_o m c), (h c).2⟩)
      (Cert.Kernel2Ideal.Value.run_blocks (F := Ideal) m ρ)
  · refine (θ_run Cert.Reference2Ideal.defs _ _).mono (fun r h c => ⟨(h c).1.trans ?_, (h c).2⟩)
      (Cert.Reference2Ideal.Value.run (F := Ideal) m' ρ')
    obtain ⟨h0, h1, h2, h3, h4, h5⟩ := hagree c
    rw [Cert.Reference2Ideal.Read.val_main_v50_eq, Cert.Reference2Ideal.Hand.ref_eq, h0, h1, h2, h3, h4, h5]
    rfl

end Cert.FfnClaims

end
-- ==== Proof.Merge.lean ====
module

public import proofs.«01_k».proof.Proof.Gen.Kernel3Ideal.Value
public import proofs.«01_k».proof.Proof.RowNorm
public import Idealize.ShloMosaic.Lib.Pointwise
public import Idealize.ShloMosaic.Lib.Pipeline.ValueKit

@[expose] public section

set_option maxRecDepth 16384

noncomputable section

namespace Cert.Kernel3Ideal.Hand

open Cert.Kernel3Ideal Cert.Kernel3Ideal.Gen Idealize.ShloMosaic Idealize.ShloMosaic.TcCoe Idealize.SL.Sem

section Tile
variable {F : FTy → Type} [FloatOps F]

/-- What the body computes of one group of 256 rows. -/
def tile (g : Vec F S1x1x1024 .f32) (srg oret : Vec F S1x256x1024 .bf16) (wro : Vec F S1024x1024 .bf16)
    (att : Vec F S1x512x256 .bf16) (wmo : Vec F S512x1024 .bf16) (sgr sgm : Vec F S1x256x1024 .bf16) (wo : Vec F S1024x1024 .bf16)
    (x : Vec F S1x256x1024 .f32) (gain off : Vec F S1x1024 .f32) : FVec F S1x256x1024 .f32 :=
  k0_pay1 (k0_pay2 g) (k0_pay24 (k0_pay10 srg oret wro) (k0_pay11 att wmo) sgr sgm wo) x gain off

/-- The body's result is that of its four groups of rows. -/
theorem out_eq (x0 : Vec F S1x1024x1024 .f32) (x1 : Vec F S1x6x1024 .f32) (x2 x3 : Vec F S1x1024x1024 .bf16)
    (x4 : Vec F S1x512x1024 .bf16) (x5 x6 : Vec F S1x1024x1024 .bf16) (x7 : Vec F S1024x1024 .bf16) (x8 : Vec F S512x1024 .bf16)
    (x9 : Vec F S1024x1024 .bf16) (x10 x11 : Vec F S1x1024 .f32) :
    out0_12 x0 x1 x2 x3 x4 x5 x6 x7 x8 x9 x10 x11 = View.canon
      [⟨r0_9, tile (View.ld x1 r0_0) (View.ld x3 r0_9) (View.ld x2 r0_9) (View.ld x7 r0_2) (View.ld x4 r0_10) (View.ld x8 r0_4) (View.ld x5 r0_9) (View.ld x6 r0_9) (View.ld x9 r0_2) (View.ld x0 r0_9) (View.ld x10 r0_11) (View.ld x11 r0_11)⟩,
       ⟨r0_7, tile (View.ld x1 r0_0) (View.ld x3 r0_7) (View.ld x2 r0_7) (View.ld x7 r0_2) (View.ld x4 r0_8) (View.ld x8 r0_4) (View.ld x5 r0_7) (View.ld x6 r0_7) (View.ld x9 r0_2) (View.ld x0 r0_7) (View.ld x10 r0_11) (View.ld x11 r0_11)⟩,
       ⟨r0_5, tile (View.ld x1 r0_0) (View.ld x3 r0_5) (View.ld x2 r0_5) (View.ld x7 r0_2) (View.ld x4 r0_6) (View.ld x8 r0_4) (View.ld x5 r0_5) (View.ld x6 r0_5) (View.ld x9 r0_2) (View.ld x0 r0_5) (View.ld x10 r0_11) (View.ld x11 r0_11)⟩,
       ⟨r0_1, tile (View.ld x1 r0_0) (View.ld x3 r0_1) (View.ld x2 r0_1) (View.ld x7 r0_2) (View.ld x4 r0_3) (View.ld x8 r0_4) (View.ld x5 r0_1) (View.ld x6 r0_1) (View.ld x9 r0_2) (View.ld x0 r0_1) (View.ld x10 r0_11) (View.ld x11 r0_11)⟩] := rfl

end Tile

/-- The row before the normalization: the residual scaled, plus the gate times the projected mix of the two branches. -/
def row (g srg oret : Fin 1024 → EReal) (wro : Fin 1024 → Fin 1024 → EReal) (att : Fin 512 → EReal)
    (wmo : Fin 512 → Fin 1024 → EReal) (sgr sgm : Fin 1024 → EReal) (wo : Fin 1024 → Fin 1024 → EReal)
    (x : Fin 1024 → EReal) (c : Fin 1024) : EReal :=
  Ideal.ofBits .f32 0x3F9837F0#32 * x c
    + g c * ∑ k, (sgr k * (∑ i, srg i * oret i * wro i k) + sgm k * (∑ i, att i * wmo i k)) * wo k c

theorem pay24_apply (u w : FVec Ideal S256x1024 .f32) (sgr sgm : Vec Ideal S1x256x1024 .bf16) (wo : Vec Ideal S1024x1024 .bf16)
    (r : Fin 256) (c : Fin 1024) :
    k0_pay24 u w sgr sgm wo (ix2 r c)
      = ∑ k, (sgr (ix3 0 r k) * u (ix2 r k) + sgm (ix3 0 r k) * w (ix2 r k)) * wo (ix2 k c) := by
  pointwise [k0_pay24]

theorem pay10_apply (srg oret : Vec Ideal S1x256x1024 .bf16) (wro : Vec Ideal S1024x1024 .bf16) (r : Fin 256) (c : Fin 1024) :
    k0_pay10 srg oret wro (ix2 r c) = ∑ i, srg (ix3 0 r i) * oret (ix3 0 r i) * wro (ix2 i c) := by
  pointwise [k0_pay10]

theorem pay11_apply (att : Vec Ideal S1x512x256 .bf16) (wmo : Vec Ideal S512x1024 .bf16) (r : Fin 256) (c : Fin 1024) :
    k0_pay11 att wmo (ix2 r c) = ∑ i, att (ix3 0 i r) * wmo (ix2 i c) := by
  pointwise [k0_pay11]

theorem pay1_apply (v : FVec Ideal S1x1024 .f32) (w : FVec Ideal S256x1024 .f32) (x : Vec Ideal S1x256x1024 .f32)
    (g b : Vec Ideal S1x1024 .f32) (r : Fin 256) (c : Fin 1024) :
    k0_pay1 v w x g b (ix3 0 r c)
      = Rows.norm (fun k => Ideal.ofBits .f32 0x3F9837F0#32 * x (ix3 0 r k) + v (ix2 0 k) * w (ix2 r k))
          (fun k => g (ix2 0 k)) (fun k => b (ix2 0 k)) c := by
  pointwise [k0_pay1]
  rfl

theorem pay2_apply (v : Vec Ideal S1x1x1024 .f32) (c : Fin 1024) : k0_pay2 v (ix2 0 c) = v (ix3 0 0 c) := by
  pointwise [k0_pay2]

theorem tile_apply (g : Vec Ideal S1x1x1024 .f32) (srg oret : Vec Ideal S1x256x1024 .bf16) (wro : Vec Ideal S1024x1024 .bf16)
    (att : Vec Ideal S1x512x256 .bf16) (wmo : Vec Ideal S512x1024 .bf16) (sgr sgm : Vec Ideal S1x256x1024 .bf16) (wo : Vec Ideal S1024x1024 .bf16)
    (x : Vec Ideal S1x256x1024 .f32) (gain off : Vec Ideal S1x1024 .f32) (r : Fin 256) (c : Fin 1024) :
    tile g srg oret wro att wmo sgr sgm wo x gain off (ix3 0 r c)
      = Rows.norm (row (fun i => g (ix3 0 0 i)) (fun i => srg (ix3 0 r i)) (fun i => oret (ix3 0 r i)) (fun i k => wro (ix2 i k))
          (fun i => att (ix3 0 i r)) (fun i k => wmo (ix2 i k)) (fun k => sgr (ix3 0 r k)) (fun k => sgm (ix3 0 r k))
          (fun k c => wo (ix2 k c)) (fun i => x (ix3 0 r i)))
        (fun k => gain (ix2 0 k)) (fun k => off (ix2 0 k)) c := by
  unfold tile
  rw [pay1_apply]
  simp only [pay2_apply, pay24_apply, pay10_apply, pay11_apply]
  rfl

theorem tile_at (g : Vec Ideal S1x1x1024 .f32) (srg oret : Vec Ideal S1x256x1024 .bf16) (wro : Vec Ideal S1024x1024 .bf16)
    (att : Vec Ideal S1x512x256 .bf16) (wmo : Vec Ideal S512x1024 .bf16) (sgr sgm : Vec Ideal S1x256x1024 .bf16) (wo : Vec Ideal S1024x1024 .bf16)
    (x : Vec Ideal S1x256x1024 .f32) (gain off : Vec Ideal S1x1024 .f32) (j : S1x256x1024.Idx) :
    tile g srg oret wro att wmo sgr sgm wo x gain off j
      = Rows.norm (row (fun i => g (ix3 0 0 i)) (fun i => srg (ix3 0 (j 1) i)) (fun i => oret (ix3 0 (j 1) i)) (fun i k => wro (ix2 i k))
          (fun i => att (ix3 0 i (j 1))) (fun i k => wmo (ix2 i k)) (fun k => sgr (ix3 0 (j 1) k)) (fun k => sgm (ix3 0 (j 1) k))
          (fun k c => wo (ix2 k c)) (fun i => x (ix3 0 (j 1) i)))
        (fun k => gain (ix2 0 k)) (fun k => off (ix2 0 k)) (j 2) := by
  have e : j = ix3 0 (j 1) (j 2) := by
    funext a
    match a with
    | ⟨0, _⟩ => exact Subsingleton.elim (α := Fin 1) _ _
    | ⟨1, _⟩ => rfl
    | ⟨2, _⟩ => rfl
  exact (congrArg (tile g srg oret wro att wmo sgr sgm wo x gain off) e).trans
    (tile_apply g srg oret wro att wmo sgr sgm wo x gain off (j 1) (j 2))

/-- The body's result at a place of the block. -/
def blk (x0 : Vec Ideal S1x1024x1024 .f32) (x1 : Vec Ideal S1x6x1024 .f32) (x2 x3 : Vec Ideal S1x1024x1024 .bf16)
    (x4 : Vec Ideal S1x512x1024 .bf16) (x5 x6 : Vec Ideal S1x1024x1024 .bf16) (x7 : Vec Ideal S1024x1024 .bf16) (x8 : Vec Ideal S512x1024 .bf16)
    (x9 : Vec Ideal S1024x1024 .bf16) (x10 x11 : Vec Ideal S1x1024 .f32) : Vec Ideal S1x1024x1024 .f32 := fun (y : S1x1024x1024.Idx) =>
  Rows.norm (row (fun i => x1 (ix3 0 2 i)) (fun i => x3 (ix3 0 (y 1) i)) (fun i => x2 (ix3 0 (y 1) i)) (fun i k => x7 (ix2 i k))
      (fun i => x4 (ix3 0 i (y 1))) (fun i k => x8 (ix2 i k)) (fun k => x5 (ix3 0 (y 1) k)) (fun k => x6 (ix3 0 (y 1) k))
      (fun k c => x9 (ix2 k c)) (fun i => x0 (ix3 0 (y 1) i)))
    (fun k => x10 (ix2 0 k)) (fun k => x11 (ix2 0 k)) (y 2)

/-- Two such rows agree when what they are made of agrees. -/
theorem norm_row_congr {g g' srg srg' oret oret' sgr sgr' sgm sgm' x x' ga ga' be be' : Fin 1024 → EReal}
    {wro wro' wo wo' : Fin 1024 → Fin 1024 → EReal} {att att' : Fin 512 → EReal} {wmo wmo' : Fin 512 → Fin 1024 → EReal} {k k' : Fin 1024}
    (h₁ : ∀ i, g i = g' i) (h₂ : ∀ i, srg i = srg' i) (h₃ : ∀ i, oret i = oret' i) (h₄ : ∀ i j, wro i j = wro' i j)
    (h₅ : ∀ i, att i = att' i) (h₆ : ∀ i j, wmo i j = wmo' i j) (h₇ : ∀ i, sgr i = sgr' i) (h₈ : ∀ i, sgm i = sgm' i)
    (h₉ : ∀ i j, wo i j = wo' i j) (h₁₀ : ∀ i, x i = x' i) (h₁₁ : ∀ i, ga i = ga' i) (h₁₂ : ∀ i, be i = be' i) (hk : k = k') :
    Rows.norm (row g srg oret wro att wmo sgr sgm wo x) ga be k = Rows.norm (row g' srg' oret' wro' att' wmo' sgr' sgm' wo' x') ga' be' k' := by
  rw [funext h₁, funext h₂, funext h₃, funext fun i => funext (h₄ i), funext h₅, funext fun i => funext (h₆ i), funext h₇,
    funext h₈, funext fun i => funext (h₉ i), funext h₁₀, funext h₁₁, funext h₁₂, hk]

theorem out_apply (x0 : Vec Ideal S1x1024x1024 .f32) (x1 : Vec Ideal S1x6x1024 .f32) (x2 x3 : Vec Ideal S1x1024x1024 .bf16)
    (x4 : Vec Ideal S1x512x1024 .bf16) (x5 x6 : Vec Ideal S1x1024x1024 .bf16) (x7 : Vec Ideal S1024x1024 .bf16) (x8 : Vec Ideal S512x1024 .bf16)
    (x9 : Vec Ideal S1024x1024 .bf16) (x10 x11 : Vec Ideal S1x1024 .f32) (y : S1x1024x1024.Idx) :
    out0_12 x0 x1 x2 x3 x4 x5 x6 x7 x8 x9 x10 x11 y = blk x0 x1 x2 x3 x4 x5 x6 x7 x8 x9 x10 x11 y := by
  rw [out_eq]
  refine View.canon_apply_of_pieces (Val := Elt Ideal) (blk x0 x1 x2 x3 x4 x5 x6 x7 x8 x9 x10 x11) _ ?_ y (cover0_12 _ _ _ _ y)
  intro p hp j
  simp only [List.mem_cons, List.not_mem_nil, or_false] at hp
  rcases hp with rfl | rfl | rfl | rfl
  all_goals
    refine (tile_at _ _ _ _ _ _ _ _ _ _ _ _ j).trans ?_
    pointwise [blk]
    refine norm_row_congr ?_ ?_ ?_ ?_ ?_ ?_ ?_ ?_ ?_ ?_ ?_ ?_ ?_
    all_goals
      intros
      first
        | rfl
        | (congr 2; exact Fin.ext (by rw [Rect.emb_apply]; simp [r0_9, r0_7, r0_5, r0_1]))
        | exact Fin.ext (by rw [Rect.emb_apply]; simp [r0_9, r0_7, r0_5, r0_1])

/-- The merge's result as one function of its arguments. -/
def G (x : Vec Ideal S4x4096x1024 .f32) (ada : Vec Ideal S8x6144 .f32) (oret srg : Vec Ideal S4x4096x1024 .bf16)
    (att : Vec Ideal S4x512x4096 .bf16) (sgr sgm : Vec Ideal S4x4096x1024 .bf16) (wro : Vec Ideal S1x1024x1024 .f32)
    (wmo : Vec Ideal S1x512x1024 .f32) (wo : Vec Ideal S1x1024x1024 .f32) (g b : Vec Ideal S1x1024 .f32) : Vec Ideal S4x4096x1024 .f32 :=
  fun (y : S4x4096x1024.Idx) =>
  Rows.norm (row (fun i => ada (ix2 ⟨(y 0).val, lt_trans (y 0).isLt (by decide)⟩ ⟨2048 + i.val, by omega⟩))
      (fun i => srg (ix3 (y 0) (y 1) i)) (fun i => oret (ix3 (y 0) (y 1) i)) (fun i k => wro (ix3 0 i k))
      (fun i => att (ix3 (y 0) i (y 1))) (fun i k => wmo (ix3 0 i k)) (fun k => sgr (ix3 (y 0) (y 1) k)) (fun k => sgm (ix3 (y 0) (y 1) k))
      (fun k c => wo (ix3 0 k c)) (fun i => x (ix3 (y 0) (y 1) i)))
    (fun k => g (ix2 0 k)) (fun k => b (ix2 0 k)) (y 2)

variable (m : (ℓ : Loc nD τ sig) → Buf (Elt Ideal) ℓ)

theorem cast_ada (x : Vec Ideal S8x6144 .f32) (j : Fin 8) (r : Fin 6) (k : Fin 1024) :
    shapeCast S8x6x1024 x shapeCasts_S8x6144_S8x6x1024 (ix3 j r k) = x (ix2 j ⟨r.val * 1024 + k.val, by omega⟩) := by
  pointwise []

theorem cast_sq (x : Vec Ideal S1x1024x1024 .f32) (j : Fin 1024) (k : Fin 1024) :
    shapeCast S1024x1024 x shapeCasts_S1x1024x1024_S1024x1024 (ix2 j k) = x (ix3 0 j k) := by
  pointwise []

theorem cast_mo (x : Vec Ideal S1x512x1024 .f32) (j : Fin 512) (k : Fin 1024) :
    shapeCast S512x1024 x shapeCasts_S1x512x1024_S512x1024 (ix2 j k) = x (ix3 0 j k) := by
  pointwise []

theorem cast_row (x : Vec Ideal S1x1024 .f32) (k : Fin 1024) :
    shapeCast S1x1024 (shapeCast S1024 x shapeCasts_S1x1024_S1024) shapeCasts_S1024_S1x1024 (ix2 0 k) = x (ix2 0 k) := by
  pointwise []

theorem V_v0 (c : Dev nD) (j : Fin 8) (r : Fin 6) (k : Fin 1024) :
    V m c main_v0 (ix3 j r k) = m ((c : Thread nD τ).loc main_arg1) (ix2 j ⟨r.val * 1024 + k.val, by omega⟩) :=
  cast_ada (m ((c : Thread nD τ).loc main_arg1)) j r k

theorem V_v2 (c : Dev nD) (j : Fin 1024) (k : Fin 1024) :
    V m c main_v2 (ix2 j k) = m ((c : Thread nD τ).loc main_arg7) (ix3 0 j k) :=
  cast_sq (m ((c : Thread nD τ).loc main_arg7)) j k

theorem V_v4 (c : Dev nD) (j : Fin 512) (k : Fin 1024) :
    V m c main_v4 (ix2 j k) = m ((c : Thread nD τ).loc main_arg8) (ix3 0 j k) :=
  cast_mo (m ((c : Thread nD τ).loc main_arg8)) j k

theorem V_v6 (c : Dev nD) (j : Fin 1024) (k : Fin 1024) :
    V m c main_v6 (ix2 j k) = m ((c : Thread nD τ).loc main_arg9) (ix3 0 j k) :=
  cast_sq (m ((c : Thread nD τ).loc main_arg9)) j k

theorem V_v8 (c : Dev nD) (k : Fin 1024) :
    V m c main_v8 (ix2 0 k) = m ((c : Thread nD τ).loc main_arg10) (ix2 0 k) :=
  cast_row (m ((c : Thread nD τ).loc main_arg10)) k

theorem V_v10 (c : Dev nD) (k : Fin 1024) :
    V m c main_v10 (ix2 0 k) = m ((c : Thread nD τ).loc main_arg11) (ix2 0 k) :=
  cast_row (m ((c : Thread nD τ).loc main_arg11)) k

theorem e₀ : ∀ t : Fin cfg0.N, win0_0.index t = ![(grid0.coords t 0).val, (grid0.coords t 1).val, 0] :=
  (by decide +kernel : ∀ t : Fin grid0.N, _)
theorem e₁ : ∀ t : Fin cfg0.N, win0_1.index t = ![(grid0.coords t 0).val, 0, 0] :=
  (by decide +kernel : ∀ t : Fin grid0.N, _)
theorem e₂ : ∀ t : Fin cfg0.N, win0_2.index t = ![(grid0.coords t 0).val, (grid0.coords t 1).val, 0] :=
  (by decide +kernel : ∀ t : Fin grid0.N, _)
theorem e₃ : ∀ t : Fin cfg0.N, win0_3.index t = ![(grid0.coords t 0).val, (grid0.coords t 1).val, 0] :=
  (by decide +kernel : ∀ t : Fin grid0.N, _)
theorem e₄ : ∀ t : Fin cfg0.N, win0_4.index t = ![(grid0.coords t 0).val, 0, (grid0.coords t 1).val] :=
  (by decide +kernel : ∀ t : Fin grid0.N, _)
theorem e₅ : ∀ t : Fin cfg0.N, win0_5.index t = ![(grid0.coords t 0).val, (grid0.coords t 1).val, 0] :=
  (by decide +kernel : ∀ t : Fin grid0.N, _)
theorem e₆ : ∀ t : Fin cfg0.N, win0_6.index t = ![(grid0.coords t 0).val, (grid0.coords t 1).val, 0] :=
  (by decide +kernel : ∀ t : Fin grid0.N, _)
theorem e₇ : ∀ t : Fin cfg0.N, win0_7.index t = ![0, 0] :=
  (by decide +kernel : ∀ t : Fin grid0.N, _)
theorem e₈ : ∀ t : Fin cfg0.N, win0_8.index t = ![0, 0] :=
  (by decide +kernel : ∀ t : Fin grid0.N, _)
theorem e₉ : ∀ t : Fin cfg0.N, win0_9.index t = ![0, 0] :=
  (by decide +kernel : ∀ t : Fin grid0.N, _)
theorem e₁₀ : ∀ t : Fin cfg0.N, win0_10.index t = ![0, 0] :=
  (by decide +kernel : ∀ t : Fin grid0.N, _)
theorem e₁₁ : ∀ t : Fin cfg0.N, win0_11.index t = ![0, 0] :=
  (by decide +kernel : ∀ t : Fin grid0.N, _)
theorem e₁₂ : ∀ t : Fin cfg0.N, win0_12.index t = ![(grid0.coords t 0).val, (grid0.coords t 1).val, 0] :=
  (by decide +kernel : ∀ t : Fin grid0.N, _)

/-- That function of the arguments a run starts from. -/
def GM (c : Dev nD) : Vec Ideal S4x4096x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

set_option maxHeartbeats 1000000 in
theorem final_o (c : Dev nD) : (dats m 0 c).arrAt 12 cfg0.N = GM m c := by
  refine (dats m 0 c).arrAt_eq_of_covers 12 _ (by decide +kernel) fun t hf y => ?_
  blk_simp
  rw [after0_12]
  have p₇ (r k : Fin 1024) : (win0_7.blk t).view.emb (ix2 r k) = ix2 r k := by blk_ext [e₇]
  have p₈ (r : Fin 512) (k : Fin 1024) : (win0_8.blk t).view.emb (ix2 r k) = ix2 r k := by blk_ext [e₈]
  have p₉ (r k : Fin 1024) : (win0_9.blk t).view.emb (ix2 r k) = ix2 r k := by blk_ext [e₉]
  have p₁₀ (k : Fin 1024) : (win0_10.blk t).view.emb (ix2 0 k) = ix2 0 k := by blk_ext [e₁₀]
  have p₁₁ (k : Fin 1024) : (win0_11.blk t).view.emb (ix2 0 k) = ix2 0 k := by blk_ext [e₁₁]
  refine (out_apply _ _ _ _ _ _ _ _ _ _ _ _ y).trans ?_
  simp only [blk, GM, G]
  have p₁ (r : Fin 6) (i : Fin 1024) : (win0_1.blk t).view.emb (ix3 0 r i)
      = ix3 ⟨((win0_12.blk t).view.emb y 0).val, lt_trans (b := 4) ((win0_12.blk t).view.emb y 0).isLt (by decide)⟩ r i := by
    blk_ext [e₁, e₁₂]
  refine norm_row_congr (fun i => (congrArg (V m c main_v0) (p₁ 2 i)).trans (V_v0 m c _ 2 i))
    (fun i => (congrFun (V_main_arg3 m c) _).trans (congrArg (m ((c : Thread nD τ).loc main_arg3)) ?_))
    (fun i => (congrFun (V_main_arg2 m c) _).trans (congrArg (m ((c : Thread nD τ).loc main_arg2)) ?_))
    (fun i j => (congrArg (V m c main_v2) (p₇ i j)).trans (V_v2 m c i j))
    (fun i => (congrFun (V_main_arg4 m c) _).trans (congrArg (m ((c : Thread nD τ).loc main_arg4)) ?_))
    (fun i j => (congrArg (V m c main_v4) (p₈ i j)).trans (V_v4 m c i j))
    (fun i => (congrFun (V_main_arg5 m c) _).trans (congrArg (m ((c : Thread nD τ).loc main_arg5)) ?_))
    (fun i => (congrFun (V_main_arg6 m c) _).trans (congrArg (m ((c : Thread nD τ).loc main_arg6)) ?_))
    (fun i j => (congrArg (V m c main_v6) (p₉ i j)).trans (V_v6 m c i j))
    (fun i => (congrFun (V_main_arg0 m c) _).trans (congrArg (m ((c : Thread nD τ).loc main_arg0)) ?_))
    (fun i => (congrArg (V m c main_v8) (p₁₀ i)).trans (V_v8 m c i))
    (fun i => (congrArg (V m c main_v10) (p₁₁ i)).trans (V_v10 m c i)) ?_
  · blk_ext [e₃, e₁₂]
  · blk_ext [e₂, e₁₂]
  · blk_ext [e₄, e₁₂]
  · blk_ext [e₅, e₁₂]
  · blk_ext [e₆, e₁₂]
  · blk_ext [e₀, e₁₂]
  · exact Fin.ext (by blk_simp [e₁₂])

end Cert.Kernel3Ideal.Hand

end
-- ==== Proof.MergeRef.lean ====
module

public import proofs.«01_k».proof.Proof.Gen.Reference3Ideal.Read
public import proofs.«01_k».proof.Proof.Merge
public import proofs.«01_k».proof.Defs
public import proofs.«01_k».proof.Proof.Gen.Kernel3

@[expose] public section

set_option maxRecDepth 16384

noncomputable section

namespace Cert.Reference3Ideal.Hand

open Cert.Reference3Ideal Cert.Reference3Ideal.Gen Cert.Reference3Ideal.Read Idealize.ShloMosaic Idealize.ShloMosaic.TcCoe Idealize.SL.Sem
open Cert.Kernel3Ideal.Hand (row G)

variable (x0 : Vec Ideal S4x4096x1024 .f32) (x1 : Vec Ideal S8x6144 .f32) (x2 x3 : Vec Ideal S4x4096x1024 .bf16)
  (x4 : Vec Ideal S4x512x4096 .bf16) (x5 x6 : Vec Ideal S4x4096x1024 .bf16) (x7 : Vec Ideal S1x1024x1024 .f32)
  (x8 : Vec Ideal S1x512x1024 .f32) (x9 : Vec Ideal S1x1024x1024 .f32) (x10 x11 : Vec Ideal S1x1024 .f32)

theorem row_apply (b : Fin 4) (l : Fin 4096) (c : Fin 1024) :
    val_main_v28 (F := Ideal) x0 x1 x2 x3 x4 x5 x6 x7 x8 x9 (ix3 b l c)
      = row (fun i => x1 (ix2 ⟨b.val, by omega⟩ ⟨2048 + i.val, by omega⟩)) (fun i => x3 (ix3 b l i)) (fun i => x2 (ix3 b l i))
        (fun i k => x7 (ix3 0 i k)) (fun i => x4 (ix3 b i l)) (fun i k => x8 (ix3 0 i k)) (fun k => x5 (ix3 b l k)) (fun k => x6 (ix3 b l k))
        (fun k c => x9 (ix3 0 k c)) (fun i => x0 (ix3 b l i)) c := by
  pointwise [val_main_cst, val_main_v28, val_main_v27, val_main_v26, val_main_v25, val_main_v24, val_main_v23, val_main_v22, val_main_v21, val_main_v20, val_main_v19, val_main_v18, val_main_v17, val_main_v16, val_main_v15, val_main_v14, val_main_v13, val_main_v9, val_main_v6, val_main_v5, val_main_v4, val_main_v3, val_main_v2, val_main_v1, val_main_v0]
  rfl

theorem norm_apply (b : Fin 4) (l : Fin 4096) (c : Fin 1024) :
    val_main_v52 (F := Ideal) x0 x1 x2 x3 x4 x5 x6 x7 x8 x9 x10 x11 (ix3 b l c)
      = Rows.norm (fun k => val_main_v28 (F := Ideal) x0 x1 x2 x3 x4 x5 x6 x7 x8 x9 (ix3 b l k)) (fun k => x10 (ix2 0 k)) (fun k => x11 (ix2 0 k)) c := by
  pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_cst_0, val_main_cst_1, val_main_cst_2, val_main_cst_3, val_main_cst_4]
  rfl

theorem ref_eq : val_main_v52 (F := Ideal) x0 x1 x2 x3 x4 x5 x6 x7 x8 x9 x10 x11 = G x0 x1 x2 x3 x4 x5 x6 x7 x8 x9 x10 x11 := by
  funext y
  idx_vars y
  rw [norm_apply]
  simp only [row_apply]
  rfl

end Cert.Reference3Ideal.Hand

namespace Cert.MergeClaims

open Idealize.ShloMosaic Idealize.ShloMosaic.TcCoe Idealize.SL.Sem

theorem frame_r : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel's result and the reference's are the same function of the arguments. -/
theorem algebraic : Cert.algebraic_Kernel3Ideal_Reference3Ideal := by
  intro m ρ m' ρ' _ hagree
  refine ⟨fun c => Cert.Kernel3Ideal.Hand.GM m c, ?_, ?_⟩
  · exact (θ_run Cert.Kernel3Ideal.defs _ _).mono (fun r h c => ⟨(h c).1.trans (Cert.Kernel3Ideal.Hand.final_o m c), (h c).2⟩)
      (Cert.Kernel3Ideal.Value.run_blocks (F := Ideal) m ρ)
  · refine (θ_run Cert.Reference3Ideal.defs _ _).mono (fun r h c => ⟨(h c).1.trans ?_, (h c).2⟩)
      (Cert.Reference3Ideal.Value.run (F := Ideal) m' ρ')
    obtain ⟨h0, h1, h2, h3, h4, h5, h6, h7, h8, h9, h10, h11⟩ := hagree c
    rw [Cert.Reference3Ideal.Read.val_main_v52_eq, Cert.Reference3Ideal.Hand.ref_eq, h0, h1, h2, h3, h4, h5, h6, h7, h8, h9, h10, h11]
    rfl

end Cert.MergeClaims

end
-- ==== Proof.lean ====
/-
  The claims of the certificate, assembled: each program's frame, the idealizations, and the value claims.
-/
module

public import proofs.«01_k».proof.Defs
public import proofs.«01_k».proof.Proof.Gen.Kernel.Frame
public import proofs.«01_k».proof.Proof.Gen.KernelIdeal.Frame
public import proofs.«01_k».proof.Proof.AttnClaims
public import proofs.«01_k».proof.Proof.Gen.Kernel2.Frame
public import proofs.«01_k».proof.Proof.Gen.Kernel3.Frame
public import proofs.«01_k».proof.Proof.FfnRef
public import proofs.«01_k».proof.Proof.MergeRef

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_finite_scores.Gen.facts,
    fun m ρ _ => Cert.Kernel.Gen.frame m ρ, fun m ρ _ => Cert.KernelIdeal.Gen.frame m ρ, fun m ρ _ => Cert.KernelIdeal.Gen.frame m ρ,
    Cert.AttnClaims.frame_r, fun m ρ _ => Cert.AttnClaims.frame_r m ρ trivial,
    fun m ρ _ => Cert.Kernel2.Gen.frame m ρ, fun m ρ _ => Cert.Kernel2Ideal.Gen.frame m ρ, Cert.FfnClaims.frame_r,
    fun m ρ _ => Cert.Kernel3.Gen.frame m ρ, fun m ρ _ => Cert.Kernel3Ideal.Gen.frame m ρ, Cert.MergeClaims.frame_r,
    trivial, Cert.AttnClaims.algebraic, trivial, Cert.FfnClaims.algebraic, trivial, Cert.MergeClaims.algebraic⟩

end Cert.Proof

end
